-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S262144x128 : Shape := ⟨2, ![262144, 128]⟩
abbrev S262144 : Shape := ⟨1, ![262144]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S262144x128 .f32) (main_arg1 : IVec S262144 32) (main_arg2 : IVec S_ 32) : IVec S_ 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 1 := constantI S_ 1 1#1
  let main_v2 : IVec S_ 1 := (fun x v => Host.reduce IntOp.andi x v reducesTo_S262144_S_d0 h_S_) main_v1 main_c_0
  let main_c_1 : IVec S_ 32 := constantI S_ 32 262144#32
  let main_v3 : IVec S262144 32 := broadcastInDim S262144 ![] bcast_S_S262144 main_c_1
  let main_v4 : IVec S262144 1 := cmpi .slt main_arg1 main_v3
  let main_c_2 : IVec S_ 1 := constantI S_ 1 1#1
  let main_v5 : IVec S_ 1 := (fun x v => Host.reduce IntOp.andi x v reducesTo_S262144_S_d0 h_S_) main_v4 main_c_2
  let main_v6 : IVec S_ 1 := andi main_v2 main_v5
  main_v6
-- ==== Kernel.lean ====
abbrev S262144x128 : Shape := ⟨2, ![262144, 128]⟩
abbrev S262144 : Shape := ⟨1, ![262144]⟩
abbrev S_ : Shape := ⟨0, ![]⟩
abbrev S16 : Shape := ⟨1, ![16]⟩
abbrev S8192 : Shape := ⟨1, ![8192]⟩
abbrev S64x128 : Shape := ⟨2, ![64, 128]⟩
abbrev S64 : Shape := ⟨1, ![64]⟩

abbrev nBuf : Table → Nat
  | .hbm => 21
  | .local .scVector .vmem => 10
  | _ => 0

abbrev bufTy : (tb : Table) → Fin (nBuf tb) → BufTy
  | .hbm, ⟨0, _⟩ => ⟨S262144x128, .f32⟩
  | .hbm, ⟨1, _⟩ => ⟨S262144, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i1⟩
  | .hbm, ⟨15, _⟩ => ⟨S_, .i1⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S16, .i32⟩
  | .hbm, ⟨20, _⟩ => ⟨S262144x128, .f32⟩
  | .local .scVector .vmem, ⟨0, _⟩ => ⟨S8192, .i32⟩
  | .local .scVector .vmem, ⟨1, _⟩ => ⟨S16, .i32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | _, _ => ⟨S262144x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_c : Ref sig .tc := ⟨.hbm, 4, rfl⟩
abbrev main_call0_v0 : Ref sig .tc := ⟨.hbm, 5, rfl⟩
abbrev main_call0_c_0 : Ref sig .tc := ⟨.hbm, 6, rfl⟩
abbrev main_call0_v1 : Ref sig .tc := ⟨.hbm, 7, rfl⟩
abbrev main_call0_v2 : Ref sig .tc := ⟨.hbm, 8, rfl⟩
abbrev main_call0_c_1 : Ref sig .tc := ⟨.hbm, 9, rfl⟩
abbrev main_call0_v3 : Ref sig .tc := ⟨.hbm, 10, rfl⟩
abbrev main_call0_c_2 : Ref sig .tc := ⟨.hbm, 11, rfl⟩
abbrev main_call0_v4 : Ref sig .tc := ⟨.hbm, 12, rfl⟩
abbrev main_call0_c_3 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_arg0_scv : Ref sig .scVector := ⟨.hbm, 0, rfl⟩
abbrev main_arg1_scv : Ref sig .scVector := ⟨.hbm, 1, rfl⟩
abbrev main_v1_scv : Ref sig .scVector := ⟨.hbm, 19, rfl⟩
abbrev main_v2_scv : Ref sig .scVector := ⟨.hbm, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
def k0_off2 (i : grid0.Coords) (c0_i32_59 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v191 : BitVec 32 := Scalar.addi v2 c0_i32_59
  let c0_i32_60 : BitVec 32 := 0#32
  ![v191.toNat, 0]
def k0_off2_at (r : Fin 12) : BitVec 32 :=
  if r.val < 6 then
    if r.val < 3 then
      if r.val < 1 then
        0#32
      else
        if r.val < 2 then
          64#32
        else
          128#32
    else
      if r.val < 4 then
        192#32
      else
        if r.val < 5 then
          7936#32
        else
          8000#32
  else
    if r.val < 9 then
      if r.val < 7 then
        8064#32
      else
        if r.val < 8 then
          8128#32
        else
          7680#32
    else
      if r.val < 10 then
        7744#32
      else
        if r.val < 11 then
          7808#32
        else
          7872#32
@[reducible] def k0_t1_loop : Scf.Loop 32 :=
  let c0_i32_137 : BitVec 32 := 0#32
  let c15_i32 : BitVec 32 := 15#32
  let v393 : BitVec 32 := Scalar.addi c0_i32_137 c15_i32
  let c1_i32 : BitVec 32 := 1#32
  ⟨c0_i32_137, v393, c1_i32⟩
def k0_off3 (k0_t1 : Fin k0_t1_loop.trips) (c0_i32_179 : BitVec 32) : Fin 1 → Nat :=
  let c4_i32 : BitVec 32 := 4#32
  let c0_i32_137 : BitVec 32 := 0#32
  let c1_i32 : BitVec 32 := 1#32
  let arg32 : BitVec 32 := Scf.iv c0_i32_137 c1_i32 k0_t1
  let c8_i32 : BitVec 32 := 8#32
  let v438 : BitVec 32 := Scalar.muli arg32 c8_i32
  let v439 : BitVec 32 := Scalar.addi c4_i32 v438
  let v440 : BitVec 32 := Scalar.addi v439 c0_i32_179
  let c64_i32_180 : BitVec 32 := 64#32
  let v441 : BitVec 32 := Scalar.muli v440 c64_i32_180
  ![v441.toNat]
def k0_off4 (i : grid0.Coords) (k0_t1 : Fin k0_t1_loop.trips) (c0_i32_179 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c4_i32 : BitVec 32 := 4#32
  let c0_i32_137 : BitVec 32 := 0#32
  let c1_i32 : BitVec 32 := 1#32
  let arg32 : BitVec 32 := Scf.iv c0_i32_137 c1_i32 k0_t1
  let c8_i32 : BitVec 32 := 8#32
  let v438 : BitVec 32 := Scalar.muli arg32 c8_i32
  let v439 : BitVec 32 := Scalar.addi c4_i32 v438
  let v440 : BitVec 32 := Scalar.addi v439 c0_i32_179
  let c64_i32_183 : BitVec 32 := 64#32
  let v444 : BitVec 32 := Scalar.muli v440 c64_i32_183
  let v445 : BitVec 32 := Scalar.addi v2 v444
  let c0_i32_184 : BitVec 32 := 0#32
  ![v445.toNat, 0]
def k0_off5 (k0_t1 : Fin k0_t1_loop.trips) (c0_i32_179 : BitVec 32) (c0_i32_188 : BitVec 32) : Fin 1 → Nat :=
  let c4_i32 : BitVec 32 := 4#32
  let c0_i32_137 : BitVec 32 := 0#32
  let c1_i32 : BitVec 32 := 1#32
  let arg32 : BitVec 32 := Scf.iv c0_i32_137 c1_i32 k0_t1
  let c8_i32 : BitVec 32 := 8#32
  let v438 : BitVec 32 := Scalar.muli arg32 c8_i32
  let v439 : BitVec 32 := Scalar.addi c4_i32 v438
  let v440 : BitVec 32 := Scalar.addi v439 c0_i32_179
  let c4_i32_186 : BitVec 32 := 4#32
  let v448 : BitVec 32 := Scalar.addi v440 c4_i32_186
  let c64_i32_187 : BitVec 32 := 64#32
  let v449 : BitVec 32 := Scalar.muli v448 c64_i32_187
  let v450 : BitVec 32 := Scalar.addi v449 c0_i32_188
  let v451 : Index := Scalar.indexCast v450
  ![v451.toNat]
def k0_off6 (i : grid0.Coords) (k0_t1 : Fin k0_t1_loop.trips) (c0_i32_179 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c4_i32 : BitVec 32 := 4#32
  let c0_i32_137 : BitVec 32 := 0#32
  let c1_i32 : BitVec 32 := 1#32
  let arg32 : BitVec 32 := Scf.iv c0_i32_137 c1_i32 k0_t1
  let c8_i32 : BitVec 32 := 8#32
  let v438 : BitVec 32 := Scalar.muli arg32 c8_i32
  let v439 : BitVec 32 := Scalar.addi c4_i32 v438
  let v440 : BitVec 32 := Scalar.addi v439 c0_i32_179
  let c4_i32_200 : BitVec 32 := 4#32
  let v509 : BitVec 32 := Scalar.addi v440 c4_i32_200
  let c8_i32_201 : BitVec 32 := 8#32
  let v510 : BitVec 32 := Scalar.subi v509 c8_i32_201
  let c64_i32_202 : BitVec 32 := 64#32
  let v511 : BitVec 32 := Scalar.muli v510 c64_i32_202
  let v512 : BitVec 32 := Scalar.addi v2 v511
  let c0_i32_203 : BitVec 32 := 0#32
  ![v512.toNat, 0]
def k0_off7 (k0_t1 : Fin k0_t1_loop.trips) (c0_i32_179 : BitVec 32) : Fin 1 → Nat :=
  let c4_i32 : BitVec 32 := 4#32
  let c0_i32_137 : BitVec 32 := 0#32
  let c1_i32 : BitVec 32 := 1#32
  let arg32 : BitVec 32 := Scf.iv c0_i32_137 c1_i32 k0_t1
  let c8_i32 : BitVec 32 := 8#32
  let v438 : BitVec 32 := Scalar.muli arg32 c8_i32
  let v439 : BitVec 32 := Scalar.addi c4_i32 v438
  let v440 : BitVec 32 := Scalar.addi v439 c0_i32_179
  let c4_i32_205 : BitVec 32 := 4#32
  let v515 : BitVec 32 := Scalar.addi v440 c4_i32_205
  let c64_i32_206 : BitVec 32 := 64#32
  let v516 : BitVec 32 := Scalar.muli v515 c64_i32_206
  ![v516.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x128 : Shape := ⟨2, ![262144, 128]⟩
abbrev S262144 : Shape := ⟨1, ![262144]⟩
abbrev S_ : Shape := ⟨0, ![]⟩
abbrev S1 : Shape := ⟨1, ![1]⟩
abbrev S524288x128 : Shape := ⟨2, ![524288, 128]⟩
abbrev S262144x1 : Shape := ⟨2, ![262144, 1]⟩

abbrev nBuf : Space → Nat
  | .hbm => 43
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S_, .i32⟩
  | .hbm, ⟨3, _⟩ => ⟨S1, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i1⟩
  | .hbm, ⟨20, _⟩ => ⟨S_, .i1⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S524288x128, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S262144x128, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_c_0 : Ref sig .tc := ⟨.hbm, 7, rfl⟩
abbrev main_call0_v3 : Ref sig .tc := ⟨.hbm, 8, rfl⟩
abbrev main_call0_call0_c : Ref sig .tc := ⟨.hbm, 9, rfl⟩
abbrev main_call0_call0_v0 : Ref sig .tc := ⟨.hbm, 10, rfl⟩
abbrev main_call0_call0_c_0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_c_1 : Ref sig .tc := ⟨.hbm, 14, rfl⟩
abbrev main_call0_call0_v3 : Ref sig .tc := ⟨.hbm, 15, rfl⟩
abbrev main_call0_call0_c_2 : Ref sig .tc := ⟨.hbm, 16, rfl⟩
abbrev main_call0_call0_v4 : Ref sig .tc := ⟨.hbm, 17, rfl⟩
abbrev main_call0_call0_c_3 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_c_3 : Ref sig .tc := ⟨.hbm, 29, rfl⟩
abbrev main_call0_v8 : Ref sig .tc := ⟨.hbm, 30, rfl⟩
abbrev main_call0_v9 : Ref sig .tc := ⟨.hbm, 31, rfl⟩
abbrev main_call0_c_4 : Ref sig .tc := ⟨.hbm, 32, rfl⟩
abbrev main_v0 : Ref sig .tc := ⟨.hbm, 33, rfl⟩
abbrev main_c : Ref sig .tc := ⟨.hbm, 34, rfl⟩
abbrev main_v1 : Ref sig .tc := ⟨.hbm, 35, rfl⟩
abbrev main_v2 : Ref sig .tc := ⟨.hbm, 36, rfl⟩
abbrev main_c_0 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩

abbrev nD : Nat := 1
abbrev τ : Topo := Topo.v7x

variable {F : FTy → Type} [FloatOps F]
-- ==== Proof.Program.lean ====
/-
  The tile's program, written again as what it does: a chunk of row numbers made ready, a gather begun, a gather waited
  for and its rows sent on, a send waited for. `tile_eq` says that the printed function IS that sequence.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Roll

open Cert.KernelIdeal Cert.KernelIdeal.Gen
open Idealize.ShloMosaic Idealize.SL.Sem

variable {F : FTy → Type} [FloatOps F]

/-! ## The operands and the scratch, by number -/

abbrev xM : Memref sig .scVector .hbm S262144x128 .f32 := Memref.whole main_arg0_scv
abbrev iM : Memref sig .scVector .hbm S262144 .i32 := Memref.whole main_arg1_scv
abbrev hM : Memref sig .scVector .hbm S16 .i32 := Memref.whole main_v1_scv
abbrev oM : Memref sig .scVector .hbm S262144x128 .f32 := Memref.whole main_v2_scv
/-- The tile's row numbers. -/
abbrev lM : Memref sig .scVector .vmem S8192 .i32 := Memref.whole cc0_scratch0
/-- The tile's copy of the shift, sixteen times. -/
abbrev vM : Memref sig .scVector .vmem S16 .i32 := Memref.whole cc0_scratch1

/-- The ring's eight row buffers. -/
def bufR : Fin 8 → Ref sig .scVector
  | 0 => cc0_scratch2 | 1 => cc0_scratch3 | 2 => cc0_scratch4 | 3 => cc0_scratch5
  | 4 => cc0_scratch6 | 5 => cc0_scratch7 | 6 => cc0_scratch8 | 7 => cc0_scratch9
def bufM : Fin 8 → Memref sig .scVector .vmem S64x128 .f32
  | 0 => Memref.whole cc0_scratch2 | 1 => Memref.whole cc0_scratch3 | 2 => Memref.whole cc0_scratch4 | 3 => Memref.whole cc0_scratch5
  | 4 => Memref.whole cc0_scratch6 | 5 => Memref.whole cc0_scratch7 | 6 => Memref.whole cc0_scratch8 | 7 => Memref.whole cc0_scratch9
/-- The semaphore of the gathers into buffer `b`. -/
def gSem : Fin 8 → DmaSem sig
  | 0 => cc0_scratch10.sem | 1 => cc0_scratch11.sem | 2 => cc0_scratch12.sem | 3 => cc0_scratch13.sem
  | 4 => cc0_scratch14.sem | 5 => cc0_scratch15.sem | 6 => cc0_scratch16.sem | 7 => cc0_scratch17.sem
/-- The semaphore of the sends out of buffer `b`. -/
def sSem : Fin 8 → DmaSem sig
  | 0 => cc0_scratch18.sem | 1 => cc0_scratch19.sem | 2 => cc0_scratch20.sem | 3 => cc0_scratch21.sem
  | 4 => cc0_scratch22.sem | 5 => cc0_scratch23.sem | 6 => cc0_scratch24.sem | 7 => cc0_scratch25.sem

theorem bufM_whole (b : Fin 8) : (bufM b).IsWhole := by
  match b with
  | 0 | 1 | 2 | 3 | 4 | 5 | 6 | 7 => exact Memref.isWhole_whole _

/-! ## The pieces of the program -/

variable (L : grid0.Coords)

/-- The programs of tile `L`. -/
abbrev TP (F : FTy → Type) (L : grid0.Coords) : Type 1 :=
  Prog (TpuEff nD τ sig (Elt F) Λ₀ (.scVector ((L 0).castLE hcore0) ((L 1).castLE hsub0))) PUnit

/-- The row numbers `v` less the shift, a negative one taken around. -/
abbrev adj (sh : IVec S16 32) (v : Vec F S16 .i32) : IVec S16 32 := k0_pay1 sh v

/-- Sixteen row numbers at `o` made ready. -/
def piece (sh : IVec S16 32) (o : Fin 1 → ℕ) (h : ∀ a, o a + S16.size a ≤ S8192.size a) (k : TP F L) : TP F L :=
  .op (.load lM (Rect.unit (s := S8192) o S16.size h).toLoadRect (View.loadsAt_vmem h_S16)) fun v =>
  .op (.load lM (Rect.unit (s := S8192) o S16.size h).toLoadRect (View.loadsAt_vmem h_S16)) fun _ =>
  .op (.store lM (Rect.unit (s := S8192) o S16.size h) (adj (F := F) sh v) Finset.univ (View.stores_vmem_bits_univ h_S16 rfl) (.inl rfl)) fun _ => k

/-- The 64 row numbers of a chunk made ready, in four pieces. -/
def adjust (sh : IVec S16 32) (o0 : Fin 1 → ℕ) (h0 : ∀ a, o0 a + S16.size a ≤ S8192.size a)
    (o1 : Fin 1 → ℕ) (h1 : ∀ a, o1 a + S16.size a ≤ S8192.size a) (o2 : Fin 1 → ℕ) (h2 : ∀ a, o2 a + S16.size a ≤ S8192.size a)
    (o3 : Fin 1 → ℕ) (h3 : ∀ a, o3 a + S16.size a ≤ S8192.size a) (k : TP F L) : TP F L :=
  piece L sh o0 h0 <| piece L sh o1 h1 <| piece L sh o2 h2 <| piece L sh o3 h3 k

/-- All of `x`, as the gathers address it. -/
abbrev xAll : Memref sig .scVector .hbm S262144x128 .f32 :=
  xM.slice (Rect.unit (s := S262144x128) ![0, 0] S262144x128.size inb_S262144x128_S262144x128_0_0) (fun _ => rfl)
/-- A chunk's row numbers. -/
abbrev lChunk (o : Fin 1 → ℕ) (h : ∀ a, o a + S64.size a ≤ S8192.size a) : Memref sig .scVector .vmem S64 .i32 :=
  lM.slice (Rect.unit (s := S8192) o S64.size h) (fun _ => rfl)
/-- A chunk's rows of the result. -/
abbrev oChunk (o : Fin 2 → ℕ) (h : ∀ a, o a + S64x128.size a ≤ S262144x128.size a) : Memref sig .scVector .hbm S64x128 .f32 :=
  oM.slice (Rect.unit (s := S262144x128) o S64x128.size h) (fun _ => rfl)

/-- The gather of a chunk's rows into buffer `b` begun. -/
def gather (b : Fin 8) (o : Fin 1 → ℕ) (h : ∀ a, o a + S64.size a ≤ S8192.size a) (k : TP F L) : TP F L :=
  (SparseCore.enqueueIndirectGather (F := F) (p := .scVector ((L 0).castLE hcore0) ((L 1).castLE hsub0)) rfl xAll (bufM b) gathers_S262144x128_S64x128 (lChunk o h) rfl (gSem b) (View.wordExact_bits rfl) rfl (Or.inl rfl)) >>= fun _ => k

/-- The gather into buffer `b` waited for, and its rows' way out to the result begun. -/
def send (b : Fin 8) (o : Fin 2 → ℕ) (h : ∀ a, o a + S64x128.size a ≤ S262144x128.size a) (k : TP F L) : TP F L :=
  .op (.waitDma2 (gSem b) xAll (bufM b) (View.wordExact_bits rfl) (bufM_whole b).wordExact) fun _ =>
  .op (.enqueueDma (bufM b) (.here (oChunk o h)) (.dma (sSem b)) (bufM_whole b).wordExact (View.wordExact_bits rfl) ⟨Or.inl rfl, trivial⟩) fun _ => k

/-- The send out of buffer `b` waited for. -/
def drain (b : Fin 8) (o : Fin 2 → ℕ) (h : ∀ a, o a + S64x128.size a ≤ S262144x128.size a) (k : TP F L) : TP F L :=
  .op (.waitDma2 (sSem b) (bufM b) (oChunk o h) (bufM_whole b).wordExact (View.wordExact_bits rfl)) fun _ => k

/-- The tile's row numbers and the shift fetched; the program goes on with the shift. -/
def fetch (k : Vec F S16 .i32 → TP F L) : TP F L :=
  .op (.enqueueDma (iM.slice (Rect.unit (s := S262144) (k0_off1 L) S8192.size (k0_off1_inb L)) (fun _ => rfl)) (.here lM) (.dma cc0_scoped0.sem)
    (View.wordExact_bits rfl) (Memref.isWhole_whole _).wordExact ⟨Or.inl rfl, trivial⟩) fun _ =>
  .op (.waitDma2 cc0_scoped0.sem (iM.slice (Rect.unit (s := S262144) (k0_off1 L) S8192.size (k0_off1_inb L)) (fun _ => rfl)) lM
    (View.wordExact_bits rfl) (Memref.isWhole_whole _).wordExact) fun _ =>
  .op (.enqueueDma hM (.here vM) (.dma cc0_scoped1.sem) (Memref.isWhole_whole _).wordExact (Memref.isWhole_whole _).wordExact ⟨Or.inl rfl, trivial⟩) fun _ =>
  .op (.waitDma2 cc0_scoped1.sem hM vM (Memref.isWhole_whole _).wordExact (Memref.isWhole_whole _).wordExact) fun _ =>
  .op (.load vM (Rect.unit (s := S16) ![0] S16.size inb_S16_S16_0).toLoadRect (View.loadsAt_vmem h_S16)) k

/-! ## The trips, the ends -/

/-- One step of a trip: the chunk in buffer `b` sent on, the chunk four later made ready, the buffer it goes to freed, its
    gather begun. -/
def step (sh : IVec S16 32) (t : Fin k0_t1_loop.trips) (r : Fin 8) (b b' : Fin 8) (k : TP F L) : TP F L :=
  send L b (k0_off4 L t (BitVec.ofNat 32 r.val)) (k0_off4_inb L t r) <|
  adjust L sh (k0_off5 t (BitVec.ofNat 32 r.val) (BitVec.ofNat 32 (16 * (0 : Fin 4).val))) (k0_off5_inb t r 0)
    (k0_off5 t (BitVec.ofNat 32 r.val) (BitVec.ofNat 32 (16 * (1 : Fin 4).val))) (k0_off5_inb t r 1)
    (k0_off5 t (BitVec.ofNat 32 r.val) (BitVec.ofNat 32 (16 * (2 : Fin 4).val))) (k0_off5_inb t r 2)
    (k0_off5 t (BitVec.ofNat 32 r.val) (BitVec.ofNat 32 (16 * (3 : Fin 4).val))) (k0_off5_inb t r 3) <|
  drain L b' (k0_off6 L t (BitVec.ofNat 32 r.val)) (k0_off6_inb L t r) <|
  gather L b' (k0_off7 t (BitVec.ofNat 32 r.val)) (k0_off7_inb t r) k

/-- One trip: eight steps. -/
def trip (sh : IVec S16 32) (t : Fin k0_t1_loop.trips) : TP F L :=
  step L sh t 0 4 0 <| step L sh t 1 5 1 <| step L sh t 2 6 2 <| step L sh t 3 7 3 <|
  step L sh t 4 0 4 <| step L sh t 5 1 5 <| step L sh t 6 2 6 <| step L sh t 7 3 7 <| .ret ⟨⟩

/-- The bounds of the sixteen-word piece at `64 g + 16 j`, of the chunk's list, of its rows, at a literal chunk. -/
theorem inb16 (n : ℕ) (h : n ≤ 8176) : ∀ a, (![n] : Fin 1 → ℕ) a + S16.size a ≤ S8192.size a := by
  intro a; match a with
  | 0 => show n + 16 ≤ 8192; omega
theorem inb64 (n : ℕ) (h : n ≤ 8128) : ∀ a, (![n] : Fin 1 → ℕ) a + S64.size a ≤ S8192.size a := by
  intro a; match a with
  | 0 => show n + 64 ≤ 8192; omega

/-- A chunk, given by its first word, made ready. -/
def adjustAt (sh : IVec S16 32) (n : ℕ) (h : n ≤ 8128) (k : TP F L) : TP F L :=
  adjust L sh ![n] (inb16 n (by omega)) ![n + 16] (inb16 _ (by omega)) ![n + 32] (inb16 _ (by omega)) ![n + 48] (inb16 _ (by omega)) k

/-- The chunks before the first trip, each made ready and gathered: four; then four more, each behind the send of one of
    those. -/
def opening (sh : IVec S16 32) (k : TP F L) : TP F L :=
  adjustAt L sh 0 (by decide) <| gather L 0 ![0] (inb64 0 (by decide)) <|
  adjustAt L sh 64 (by decide) <| gather L 1 ![64] (inb64 64 (by decide)) <|
  adjustAt L sh 128 (by decide) <| gather L 2 ![128] (inb64 128 (by decide)) <|
  adjustAt L sh 192 (by decide) <| gather L 3 ![192] (inb64 192 (by decide)) <|
  send L 0 (k0_off2 L 0#32) (k0_off2_inb L 0) <| adjustAt L sh 256 (by decide) <| gather L 4 ![256] (inb64 256 (by decide)) <|
  send L 1 (k0_off2 L 64#32) (k0_off2_inb L 1) <| adjustAt L sh 320 (by decide) <| gather L 5 ![320] (inb64 320 (by decide)) <|
  send L 2 (k0_off2 L 128#32) (k0_off2_inb L 2) <| adjustAt L sh 384 (by decide) <| gather L 6 ![384] (inb64 384 (by decide)) <|
  send L 3 (k0_off2 L 192#32) (k0_off2_inb L 3) <| adjustAt L sh 448 (by decide) <| gather L 7 ![448] (inb64 448 (by decide)) k

/-- After the last trip: the wait for the sixth chunk's gather stands before its send in a part of its own. -/
def closing : TP F L :=
  send L 4 (k0_off2 L 7936#32) (k0_off2_inb L 4) <| send L 5 (k0_off2 L 8000#32) (k0_off2_inb L 5) <|
  send L 6 (k0_off2 L 8064#32) (k0_off2_inb L 6) <| send L 7 (k0_off2 L 8128#32) (k0_off2_inb L 7) <|
  drain L 0 (k0_off2 L 7680#32) (k0_off2_inb L 8) <| drain L 1 (k0_off2 L 7744#32) (k0_off2_inb L 9) <|
  drain L 2 (k0_off2 L 7808#32) (k0_off2_inb L 10) <| drain L 3 (k0_off2 L 7872#32) (k0_off2_inb L 11) <|
  drain L 4 (k0_off2 L 7936#32) (k0_off2_inb L 4) <| drain L 5 (k0_off2 L 8000#32) (k0_off2_inb L 5) <|
  drain L 6 (k0_off2 L 8064#32) (k0_off2_inb L 6) <| drain L 7 (k0_off2 L 8128#32) (k0_off2_inb L 7) <| .ret ⟨⟩

/-- The shift, as the program reads it. -/
abbrev shv (v : Vec F S16 .i32) : IVec S16 32 := k0_pay44 v

/-- The tile's program as printed. -/
def tile : TP F L :=
  cc0_k L xM (Memref.isWhole_whole _) iM (Memref.isWhole_whole _) hM (Memref.isWhole_whole _) oM (Memref.isWhole_whole _)
    lM (Memref.isWhole_whole _) vM (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    cc0_scratch10 cc0_scratch11 cc0_scratch12 cc0_scratch13 cc0_scratch14 cc0_scratch15 cc0_scratch16 cc0_scratch17
    cc0_scratch18 cc0_scratch19 cc0_scratch20 cc0_scratch21 cc0_scratch22 cc0_scratch23 cc0_scratch24 cc0_scratch25
    cc0_scoped0 cc0_scoped1

/-- The tail that stands outside the loop's own part. -/
def closing' : TP F L :=
  .op (.enqueueDma (bufM 5) (.here (oChunk (k0_off2 L 8000#32) (k0_off2_inb L 5))) (.dma (sSem 5)) (bufM_whole 5).wordExact (View.wordExact_bits rfl) ⟨Or.inl rfl, trivial⟩) fun _ =>
  send L 6 (k0_off2 L 8064#32) (k0_off2_inb L 6) <| send L 7 (k0_off2 L 8128#32) (k0_off2_inb L 7) <|
  drain L 0 (k0_off2 L 7680#32) (k0_off2_inb L 8) <| drain L 1 (k0_off2 L 7744#32) (k0_off2_inb L 9) <|
  drain L 2 (k0_off2 L 7808#32) (k0_off2_inb L 10) <| drain L 3 (k0_off2 L 7872#32) (k0_off2_inb L 11) <|
  drain L 4 (k0_off2 L 7936#32) (k0_off2_inb L 4) <| drain L 5 (k0_off2 L 8000#32) (k0_off2_inb L 5) <|
  drain L 6 (k0_off2 L 8064#32) (k0_off2_inb L 6) <| drain L 7 (k0_off2 L 8128#32) (k0_off2_inb L 7) <| .ret ⟨⟩

set_option maxRecDepth 65536 in
set_option maxHeartbeats 4000000 in
theorem tile_eq' : tile (F := F) L = fetch L fun v =>
    opening L (shv v) <| (Scf.Loop.for k0_t1_loop k0_t1_ok ⟨⟩ (fun t _ => trip (F := F) L (shv v) t) >>= fun _ =>
      send L 4 (k0_off2 L 7936#32) (k0_off2_inb L 4) <|
      .op (.waitDma2 (gSem 5) xAll (bufM 5) (View.wordExact_bits rfl) (bufM_whole 5).wordExact) fun _ => .ret ⟨⟩) >>= fun _ => closing' L := rfl

end Cert.Proof.Roll

end
-- ==== Proof.Setup.lean ====
/-
  What the proof of the tile speaks of: the call as the launch sees it, the values (a row number made ready, the rows of
  the result), the intervals of words and of rows that the chunks are, and how they join.
-/
module

public import proofs.«01_k».proof.Proof.Program
public import Idealize.ShloMosaic.Lib.Pipeline.Value
public import Idealize.ShloMosaic.Lib.Pipeline.ValueKit.Geometry

@[expose] public section

noncomputable section

namespace Cert.Proof.Roll

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_arg0
abbrev iLoc (d : Dev nD) : Loc nD τ sig := (SparseCore.T d).loc main_arg1
abbrev sLoc (d : Dev nD) : Loc nD τ sig := (SparseCore.T d).loc main_arg2
abbrev hLoc (d : Dev nD) : Loc nD τ sig := (SparseCore.T d).loc main_v1
abbrev oLoc (d : Dev nD) : Loc nD τ sig := (SparseCore.T d).loc main_v2

/-! ## The tile -/

abbrev cV (L : grid0.Coords) : Fin τ.nSC := (L 0).castLE hcore0
abbrev jV (L : grid0.Coords) : Fin τ.nSub := (L 1).castLE hsub0
/-- The tile's first row. -/
def base (L : grid0.Coords) : ℕ := 16384 * (L 1).val + 8192 * (L 0).val
theorem base_le (L : grid0.Coords) : base L + 8192 ≤ 262144 := by
  have h0 : (L 0).val < 2 := (L 0).isLt
  have h1 : (L 1).val < 16 := (L 1).isLt
  unfold base; omega

/-! ## The values -/

/-- A row number `v` less the shift `s`, a negative one taken around. -/
def adjW (s v : BitVec 32) : BitVec 32 := if BitVec.slt (v - s) 0#32 then v - s + 262144#32 else v - s

theorem select_ofBool {α : Type} (b : Bool) (x y : α) : Scalar.select (BitVec.ofBool b) x y = if b then x else y := by
  cases b <;> rfl

theorem adj_apply (sh v : IVec S16 32) (x : S16.Idx) : adj (F := F) sh v x = adjW (sh x) (v x) := by
  unfold adj k0_pay1
  rw [shapeCast_self, shapeCast_self]
  exact select_ofBool _ _ _

/-- The list of row numbers as words by number. -/
def wordOf (I : S262144.Idx → BitVec 32) (r : ℕ) : BitVec 32 := if h : r < 262144 then I (fun | 0 => ⟨r, h⟩) else 0#32
theorem wordOf_apply (I : S262144.Idx → BitVec 32) (i : S262144.Idx) (r : ℕ) (h : r = (i 0).val) : wordOf I r = I i := by
  subst h
  have h' : (i 0).val < 262144 := (i 0).isLt
  rw [wordOf, dif_pos h']; congr 1; funext a; match a with | 0 => rfl

/-- The rows of the result: row `r` of `x` where the word made ready says. -/
def rowsOf {α : Type} (X : S262144x128.Idx → α) (s : BitVec 32) (w : ℕ → BitVec 32) (r : ℕ) (c : Fin 128) : α :=
  X (fun | 0 => ⟨(adjW s (w r)).toNat % 262144, Nat.mod_lt _ (by decide)⟩ | 1 => c)
def outOf {α : Type} (X : S262144x128.Idx → α) (s : BitVec 32) (w : ℕ → BitVec 32) : S262144x128.Idx → α :=
  fun i => rowsOf X s w (i 0).val (i 1)

/-! ## Intervals of the tile's words, of the result's rows -/

def Wset (lo hi : ℕ) : Finset S8192.Idx := Finset.univ.filter fun j => lo ≤ (j 0).val ∧ (j 0).val < hi
def Iset (lo hi : ℕ) : Finset S262144.Idx := Finset.univ.filter fun j => lo ≤ (j 0).val ∧ (j 0).val < hi
def Oset (lo hi : ℕ) : Finset S262144x128.Idx := Finset.univ.filter fun j => lo ≤ (j 0).val ∧ (j 0).val < hi
theorem mem_Wset {lo hi : ℕ} {j : S8192.Idx} : j ∈ Wset lo hi ↔ lo ≤ (j 0).val ∧ (j 0).val < hi := by simp [Wset]
theorem mem_Iset {lo hi : ℕ} {j : S262144.Idx} : j ∈ Iset lo hi ↔ lo ≤ (j 0).val ∧ (j 0).val < hi := by simp [Iset]
theorem mem_Oset {lo hi : ℕ} {j : S262144x128.Idx} : j ∈ Oset lo hi ↔ lo ≤ (j 0).val ∧ (j 0).val < hi := by simp [Oset]
theorem Wset_split {lo mid hi : ℕ} (h : lo ≤ mid) (h' : mid ≤ hi) : Wset lo hi = Wset lo mid ∪ Wset mid hi := by
  ext j; rw [Finset.mem_union, mem_Wset, mem_Wset, mem_Wset]; omega
theorem Wset_disj (lo mid hi : ℕ) : Disjoint (Wset lo mid) (Wset mid hi) :=
  Finset.disjoint_left.mpr fun j h h' => by rw [mem_Wset] at h h'; omega
theorem Oset_split {lo mid hi : ℕ} (h : lo ≤ mid) (h' : mid ≤ hi) : Oset lo hi = Oset lo mid ∪ Oset mid hi := by
  ext j; rw [Finset.mem_union, mem_Oset, mem_Oset, mem_Oset]; omega
theorem Oset_disj (lo mid hi : ℕ) : Disjoint (Oset lo mid) (Oset mid hi) :=
  Finset.disjoint_left.mpr fun j h h' => by rw [mem_Oset] at h h'; omega
theorem Wset_all : Wset 0 8192 = Finset.univ := by
  ext j; have : (j 0).val < 8192 := (j 0).isLt; simp [mem_Wset, this]
theorem Wset_none (n : ℕ) : Wset n n = ∅ := by
  ext j; simp only [mem_Wset, Finset.notMem_empty, iff_false]; omega
theorem Oset_none (n : ℕ) : Oset n n = ∅ := by
  ext j; simp only [mem_Oset, Finset.notMem_empty, iff_false]; omega

section Pts
variable {d : Dev nD} {c : Fin τ.nSC} {i : Fin τ.nSub}

/-- Two neighbouring intervals of the tile's words are one. -/
theorem lPts_split {lo hi : ℕ} (mid : ℕ) (h : lo ≤ mid) (h' : mid ≤ hi) (f : Buf (Elt F) (lM.view.loc (V d c i))) :
    (lM.view.loc (V d c i) ↦[Wset lo hi]{fullShare} f : sProp 𝕄)
      ⊣⊢ iprop((lM.view.loc (V d c i) ↦[Wset lo mid]{fullShare} f) ∗ lM.view.loc (V d c i) ↦[Wset mid hi]{fullShare} f) := by
  rw [Wset_split h h']; exact pointsTo_union (Wset_disj _ _ _)

/-- Two neighbouring intervals of the result's rows are one. -/
theorem oPts_split {lo hi : ℕ} (mid : ℕ) (h : lo ≤ mid) (h' : mid ≤ hi) (f : Buf (Elt F) (oM.view.loc (V d c i))) :
    (oM.view.loc (V d c i) ↦[Oset lo hi]{fullShare} f : sProp 𝕄)
      ⊣⊢ iprop((oM.view.loc (V d c i) ↦[Oset lo mid]{fullShare} f) ∗ oM.view.loc (V d c i) ↦[Oset mid hi]{fullShare} f) := by
  rw [Oset_split h h']; exact pointsTo_union (Oset_disj _ _ _)
end Pts

/-! ## The views the program names -/

theorem set_lChunk (n : ℕ) (h) : (lChunk ![n] h).view.set = Wset n (n + 64) := by
  ext j; rw [mem_Wset]
  refine ValueKit.mem_set_slice_whole_iff _ _ _ ((Rect.mem_set_unit).trans ?_)
  exact ⟨fun H => H 0, fun H a => match a with | 0 => H⟩
theorem set_lPiece (n : ℕ) (h : ∀ a, (![n] : Fin 1 → ℕ) a + S16.size a ≤ S8192.size a) :
    (lM.access (Rect.unit (s := S8192) ![n] S16.size h)).set = Wset n (n + 16) := by
  ext j; rw [mem_Wset]
  refine ValueKit.mem_set_slice_whole_iff _ _ _ ((Rect.mem_set_unit).trans ?_)
  exact ⟨fun H => H 0, fun H a => match a with | 0 => H⟩
theorem set_oChunk (n : ℕ) (h) : (oChunk ![n, 0] h).view.set = Oset n (n + 64) := by
  ext j; rw [mem_Oset]
  refine ValueKit.mem_set_slice_whole_iff _ _ _ ((Rect.mem_set_unit).trans ?_)
  exact ⟨fun H => H 0, fun H a => match a with | 0 => H | 1 => ⟨Nat.zero_le _, (j 1).isLt.trans_le (Nat.le_add_left _ _)⟩⟩
theorem set_iSlice (n : ℕ) (h : ∀ a, (![n] : Fin 1 → ℕ) a + S8192.size a ≤ S262144.size a) :
    (iM.slice (Rect.unit (s := S262144) ![n] S8192.size h) (fun _ => rfl)).view.set = Iset n (n + 8192) := by
  ext j; rw [mem_Iset]
  refine ValueKit.mem_set_slice_whole_iff _ _ _ ((Rect.mem_set_unit).trans ?_)
  exact ⟨fun H => H 0, fun H a => match a with | 0 => H⟩
theorem set_xAll : xAll.view.set = Finset.univ := by
  ext j; simp only [Finset.mem_univ, iff_true]
  refine (ValueKit.mem_set_slice_whole_iff _ _ _ (Rect.mem_set_unit)).mpr fun a => ?_
  match a with
  | 0 => exact ⟨Nat.zero_le _, (j 0).isLt.trans_le (Nat.le_add_left _ _)⟩
  | 1 => exact ⟨Nat.zero_le _, (j 1).isLt.trans_le (Nat.le_add_left _ _)⟩
theorem set_bufM (b : Fin 8) : (bufM b).view.set = Finset.univ := by
  match b with
  | 0 | 1 | 2 | 3 | 4 | 5 | 6 | 7 => exact View.set_whole _

end Cert.Proof.Roll

end
-- ==== Proof.Steps.lean ====
/-
  The steps of the tile's program, each proved once for every chunk and every buffer: sixteen row numbers made ready, a
  gather begun, a gather waited for and its rows sent on, a send waited for.
-/
module

public import proofs.«01_k».proof.Proof.Setup

@[expose] public section

noncomputable section

namespace Cert.Proof.Roll

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the buffers hold -/

section Values

variable (L : grid0.Coords) (s : BitVec 32) (w : ℕ → BitVec 32)

/-- The tile's list once its first `n` row numbers are ready. -/
def mix (n : ℕ) : S8192.Idx → BitVec 32 := fun j =>
  if (j 0).val < n then adjW s (w (base L + (j 0).val)) else w (base L + (j 0).val)

theorem access_emb (n : ℕ) (h : ∀ a, (![n] : Fin 1 → ℕ) a + S16.size a ≤ S8192.size a) (x : S16.Idx) :
    (((lM.access (Rect.unit (s := S8192) ![n] S16.size h)).emb x (0 : Fin 1) : Fin 8192) : ℕ) = n + (x 0).val :=
  ValueKit.view_emb_slice_whole_unit_val _ _ _ _ _ _

theorem mix_store (sh : IVec S16 32) (hsh : ∀ x, sh x = s) (n : ℕ) (h : ∀ a, (![n] : Fin 1 → ℕ) a + S16.size a ≤ S8192.size a) :
    (lM.access (Rect.unit (s := S8192) ![n] S16.size h)).write (Elt F) (mix L s w n)
      (adj (F := F) sh ((lM.access (Rect.unit (s := S8192) ![n] S16.size h)).read (Elt F) (mix L s w n))) Finset.univ = mix L s w (n + 16) := by
  funext j
  by_cases hj : j ∈ (lM.access (Rect.unit (s := S8192) ![n] S16.size h)).set
  · obtain ⟨x, -, rfl⟩ := Finset.mem_map.mp hj
    rw [View.write_emb_of_mem _ _ (Finset.mem_univ x)]
    refine (cast_eq _ _).trans ?_
    rw [adj_apply, hsh, View.read_apply]
    have hx : (x 0).val < 16 := (x 0).isLt
    have he := access_emb n h x
    show adjW s (mix L s w n _) = mix L s w (n + 16) _
    unfold mix
    rw [he, if_neg (by omega), if_pos (by omega)]
  · rw [View.write_of_not_mem _ _ _ hj]
    rw [set_lPiece, mem_Wset] at hj
    unfold mix
    by_cases h1 : (j 0).val < n
    · rw [if_pos h1, if_pos (by omega)]
    · rw [if_neg h1, if_neg (by omega)]

variable (X : S262144x128.Idx → Elt F .f32)

/-- A chunk's rows, as the gather lands them. -/
def chunkRows (n : ℕ) : S64x128.Idx → Elt F .f32 := fun x => rowsOf X s w (base L + n + (x 0).val) (x 1)

/-- The chunk's list as the gather reads it. -/
theorem list_read (n : ℕ) (h : ∀ a, (![n] : Fin 1 → ℕ) a + S64.size a ≤ S8192.size a) (x : S64.Idx) :
    (lChunk ![n] h).view.read (Elt F) (mix L s w (n + 64)) x = adjW s (w (base L + (n + (x 0).val))) := by
  rw [View.read_apply]
  refine (cast_eq _ _).trans ?_
  have he : ((((lChunk ![n] h).view).emb x (0 : Fin 1) : Fin 8192) : ℕ) = n + (x 0).val := ValueKit.view_emb_slice_whole_unit_val _ _ _ _ _ _
  have hx : (x 0).val < 64 := (x 0).isLt
  show mix L s w (n + 64) _ = _
  unfold mix
  rw [he, if_pos (by omega)]

variable (hin : ∀ r, r < 262144 → (adjW s (w r)).toNat < 262144)

include hin in
theorem list_inb (n : ℕ) (h : ∀ a, (![n] : Fin 1 → ℕ) a + S64.size a ≤ S8192.size a) (x : S64.Idx) :
    ((lChunk ![n] h).view.read (Elt F) (mix L s w (n + 64)) x).toNat < S262144x128.size gathers_S262144x128_S64x128.axis := by
  rw [list_read]
  refine hin _ ?_
  have hx : (x 0).val < 64 := (x 0).isLt
  have hn : n + 64 ≤ 8192 := h 0
  have := base_le L
  omega

theorem gather_payload (n : ℕ) (h : ∀ a, (![n] : Fin 1 → ℕ) a + S64.size a ≤ S8192.size a) (hn : S64.numel = S64x128.size gathers_S262144x128_S64x128.axis')
    (hb : ∀ x, ((lChunk ![n] h).view.read (Elt F) (mix L s w (n + 64)) x).toNat < S262144x128.size gathers_S262144x128_S64x128.axis) :
    SparseCore.gatherPayload gathers_S262144x128_S64x128 (xAll.view.read (Elt F) X)
      (SparseCore.rows ((lChunk ![n] h).view.read (Elt F) (mix L s w (n + 64))) hn hb) = chunkRows L s w X n := by
  funext x
  show xAll.view.read (Elt F) X _ = _
  rw [View.read_apply]
  refine (cast_eq _ _).trans ?_
  show X _ = X _
  congr 1
  funext a
  apply Fin.ext
  rw [show ∀ y, ((xAll.view.emb y a : Fin _) : ℕ) = (![0, 0] : Fin 2 → ℕ) a + (y a).val from fun y =>
    ValueKit.view_emb_slice_whole_unit_val _ _ _ _ _ _]
  match a with
  | 0 =>
    have hr : ((S64.rowMajor.symm ((x 0).cast hn.symm)) 0).val = (x 0).val := by
      have := Shape.rowMajor_val_one (S64.rowMajor.symm ((x 0).cast hn.symm))
      rw [Equiv.apply_symm_apply] at this
      exact this.symm
    show 0 + (((gathers_S262144x128_S64x128).idx _ x (gathers_S262144x128_S64x128).axis : Fin _) : ℕ) = _
    rw [Shape.Gathers.idx_axis, Nat.zero_add]
    have hb' := hb (S64.rowMajor.symm ((x 0).cast hn.symm))
    show ((lChunk ![n] h).view.read (Elt F) (mix L s w (n + 64)) (S64.rowMajor.symm ((x 0).cast hn.symm))).toNat = _ % 262144
    rw [list_read] at hb' ⊢
    rw [hr] at hb' ⊢
    rw [← Nat.add_assoc] at hb' ⊢
    exact (Nat.mod_eq_of_lt hb').symm
  | 1 =>
    show 0 + (((gathers_S262144x128_S64x128).idx _ x (1 : Fin 2) : Fin _) : ℕ) = (x 1).val
    rw [Shape.Gathers.idx_of_ne _ _ _ _ (by decide), Nat.zero_add]; rfl

/-- A chunk's rows sent on are the result's there. -/
theorem send_value (n : ℕ) (h : ∀ a, (![base L + n, 0] : Fin 2 → ℕ) a + S64x128.size a ≤ S262144x128.size a)
    (f : S262144x128.Idx → Elt F .f32) (j : S262144x128.Idx) (hj : j ∈ Oset (base L + n) (base L + n + 64)) :
    (oChunk ![base L + n, 0] h).view.write (Elt F) f (chunkRows L s w X n) Finset.univ j = outOf X s w j := by
  rw [← set_oChunk _ h] at hj
  obtain ⟨x, -, rfl⟩ := Finset.mem_map.mp hj
  rw [View.write_emb_of_mem _ _ (Finset.mem_univ x)]
  refine (cast_eq _ _).trans ?_
  have h0 : ((((oChunk ![base L + n, 0] h).view).emb x (0 : Fin 2) : Fin 262144) : ℕ) = base L + n + (x 0).val :=
    ValueKit.view_emb_slice_whole_unit_val _ _ _ _ _ _
  have h1 : ((((oChunk ![base L + n, 0] h).view).emb x (1 : Fin 2) : Fin 128) : ℕ) = 0 + (x 1).val :=
    ValueKit.view_emb_slice_whole_unit_val _ _ _ _ _ _
  unfold chunkRows outOf
  rw [h0]
  congr 1
  apply Fin.ext
  rw [h1, Nat.zero_add]

end Values

end Cert.Proof.Roll

end
-- ==== Proof.Rules.lean ====
/-
  The rules of the tile's steps: what each takes and gives, once for every chunk and every buffer.
-/
module

public import proofs.«01_k».proof.Proof.Steps

@[expose] public section

noncomputable section

namespace Cert.Proof.Roll

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (s : BitVec 32) (w : ℕ → BitVec 32) (X : S262144x128.Idx → Elt F .f32) (Z : S262144x128.Idx → Elt F .f32)
variable (q : Fin 8 → PosShare TreeShare) (O : CellTallies nD τ sig (HIx 1)) (W : Waits sig (HIx 1))

/-- The tile's thread. -/
abbrev thr (d : Dev nD) (L : grid0.Coords) : Thread nD τ := V d (cV L) (jV L)

/-! ## What a tile holds -/

/-- Buffer `b`'s share of `x`. -/
abbrev xShare (b : Fin 8) : sProp 𝕄 := xAll.view.loc (thr d L) ↦[xAll.view.set]{q b} X
/-- Words `lo` to `hi` of the tile's list, its first `n` ready. -/
def words (lo hi n : ℕ) : sProp 𝕄 := lM.view.loc (thr d L) ↦[Wset lo hi]{fullShare} mix L s w n
/-- Rows `lo` to `hi` of the tile's part of the result as they were, and as they are to be. -/
def todo (lo hi : ℕ) : sProp 𝕄 := oM.view.loc (thr d L) ↦[Oset (base L + lo) (base L + hi)]{fullShare} Z
def done (lo hi : ℕ) : sProp 𝕄 := oM.view.loc (thr d L) ↦[Oset (base L + lo) (base L + hi)]{fullShare} outOf X s w
/-- Buffer `b` at some contents, and with the rows of the chunk at `n`. -/
abbrev buf (b : Fin 8) : sProp 𝕄 := iprop(∃ f, (bufM b).view.loc (thr d L) ↦[(bufM b).view.set]{fullShare} f)
def bufRows (b : Fin 8) (n : ℕ) : sProp 𝕄 :=
  iprop(∃ f, ⌜(bufM b).view.read (Elt F) f = chunkRows L s w X n⌝ ∗ (bufM b).view.loc (thr d L) ↦[(bufM b).view.set]{fullShare} f)
abbrev gZero (b : Fin 8) : sProp 𝕄 := semVal (thr d L, SemLoc.dma (gSem b)) 0
abbrev sZero (b : Fin 8) : sProp 𝕄 := semVal (thr d L, SemLoc.dma (sSem b)) 0
/-- What the tile owes, the waits it has recorded beyond `W` all its own, and its leave to wait. -/
def owing : sProp 𝕄 := iprop(levAts (K (F := F)).L (K (F := F)).lev ∗ ∃ W', ⌜∀ p ∈ W', p ∈ W ∨ p.2 = none⌝ ∗ owes (thr d L) O W')

/-- Buffer `b` free. -/
def idle (b : Fin 8) : sProp 𝕄 := iprop(buf d L b ∗ gZero d L b ∗ sZero d L b ∗ xShare d L X q b)
/-- The gather of the chunk at `n` into buffer `b`, under way. -/
def filling (n : ℕ) (b : Fin 8) : sProp 𝕄 :=
  iprop(Transfers.Flight countersEmb (thr d L) (.dma (gSem b)) (default : HIx 1) ((bufM b).view.dmaCredit)
      iprop(bufRows d L s w X b n ∗ xShare d L X q b ∗ words d L s w n (n + 64) 8192) ∗ sZero d L b)
/-- The send of the chunk at `n` out of buffer `b`, under way. -/
def sending (n : ℕ) (b : Fin 8) : sProp 𝕄 :=
  iprop(Transfers.Flight countersEmb (thr d L) (.dma (sSem b)) (default : HIx 1) ((bufM b).view.dmaCredit)
      iprop(done d L s w X n (n + 64) ∗ buf d L b) ∗ gZero d L b ∗ xShare d L X q b)

/-! ## Joining -/

theorem words_congr {lo hi n n' : ℕ} (h : n = n' ∨ (hi ≤ n ∧ hi ≤ n') ∨ (n ≤ lo ∧ n' ≤ lo)) :
    words (F := F) d L s w lo hi n = words d L s w lo hi n' := by
  unfold words
  refine pointsTo_congr fun j hj => ?_
  rw [mem_Wset] at hj
  unfold mix
  by_cases h1 : (j 0).val < n
  · rw [if_pos h1, if_pos (by omega)]
  · rw [if_neg h1, if_neg (by omega)]
theorem words_split {lo hi n : ℕ} (mid : ℕ) (h : lo ≤ mid) (h' : mid ≤ hi) :
    words (F := F) d L s w lo hi n ⊣⊢ iprop(words d L s w lo mid n ∗ words d L s w mid hi n) := lPts_split mid h h' _
theorem todo_split {lo hi : ℕ} (mid : ℕ) (h : lo ≤ mid) (h' : mid ≤ hi) :
    todo d L Z lo hi ⊣⊢ iprop(todo d L Z lo mid ∗ todo d L Z mid hi) := oPts_split _ (by omega) (by omega) _
theorem done_split {lo hi : ℕ} (mid : ℕ) (h : lo ≤ mid) (h' : mid ≤ hi) :
    done d L s w X lo hi ⊣⊢ iprop(done d L s w X lo mid ∗ done d L s w X mid hi) := oPts_split _ (by omega) (by omega) _

/-! ## The rules -/

variable {Q : PUnit.{1} → sProp (MT nD τ sig (HIx 1) (Elt F) ℕ UU ℕ)}

/-- That the rest `p` of the tile's program runs and ends in `Q`. -/
abbrev runs (Q : PUnit.{1} → sProp 𝕄) (p : TP F L) : sProp 𝕄 := wp frame (wpE (defs₀ (F := F)) 𝒱₀ (thr d L) none) Set.univ p Q

theorem piece_rule (sh : IVec S16 32) (hsh : ∀ x, sh x = s) (lo n : ℕ) (hlo : lo ≤ n) (o : Fin 1 → ℕ) (ho : o = ![n]) (h) (k : TP F L) :
    words d L s w lo 8192 n ⊢ iprop((words d L s w lo 8192 (n + 16) -∗ runs d L Q k) -∗ runs d L Q (piece L sh o h k)) := by
  subst ho
  have hn : n + 16 ≤ 8192 := h 0
  have hsub : (lM.access (Rect.unit (s := S8192) ![n] S16.size h)).set ⊆ Wset lo 8192 := by
    rw [set_lPiece]; intro j hj; rw [mem_Wset] at hj ⊢; omega
  unfold words piece
  iintro H Hk
  iapply (wp_load_rect 𝒱₀ (thr d L) none Set.univ (m := lM) (r := Rect.unit (s := S8192) ![n] S16.size h) hsub) $$ H
  iintro H
  iapply (wp_load_rect 𝒱₀ (thr d L) none Set.univ (m := lM) (r := Rect.unit (s := S8192) ![n] S16.size h) hsub) $$ H
  iintro H
  iapply (wp_store 𝒱₀ (thr d L) none Set.univ (m := lM) (r := Rect.unit (s := S8192) ![n] S16.size h) hsub) $$ H
  iintro H
  rw [mix_store (F := F) L s w sh hsh n h]
  iapply Hk; iexact H

/-- The 64 row numbers of a chunk made ready. -/
theorem adjust_rule (sh : IVec S16 32) (hsh : ∀ x, sh x = s) (lo n : ℕ) (hlo : lo ≤ n) (o0 o1 o2 o3 : Fin 1 → ℕ)
    (e0 : o0 = ![n]) (e1 : o1 = ![n + 16]) (e2 : o2 = ![n + 32]) (e3 : o3 = ![n + 48]) (h0 h1 h2 h3) (k : TP F L) :
    words d L s w lo 8192 n ⊢ iprop((words d L s w lo 8192 (n + 64) -∗ runs d L Q k) -∗ runs d L Q (adjust L sh o0 h0 o1 h1 o2 h2 o3 h3 k)) := by
  unfold adjust
  iintro H Hk
  iapply (piece_rule d L s w sh hsh lo n hlo o0 e0) $$ H
  iintro H
  iapply (piece_rule d L s w sh hsh lo (n + 16) (by omega) o1 e1) $$ H
  iintro H
  iapply (piece_rule d L s w sh hsh lo (n + 32) (by omega) o2 e2) $$ H
  iintro H
  iapply (piece_rule d L s w sh hsh lo (n + 48) (by omega) o3 e3) $$ H
  iexact Hk

theorem gather_credit (b : Fin 8) : ∀ h : S262144x128.Gathers 0 S64x128,
    ∑ j, ((bufM b).slice (S64x128.rowRect h.axis' j) (S64x128.stride_rowRect h.axis' j)).view.dmaCredit = (bufM b).view.dmaCredit := by
  match b with
  | 0 | 1 | 2 | 3 | 4 | 5 | 6 | 7 => decide

/-- A gather begun. -/
theorem gather_rule (hin : ∀ r, r < 262144 → (adjW s (w r)).toNat < 262144) (b : Fin 8) (n : ℕ) (o : Fin 1 → ℕ) (ho : o = ![n]) (h) (k : TP F L) :
    iprop(idle d L X q b ∗ words d L s w n 8192 (n + 64))
      ⊢ iprop((iprop(filling d L s w X q n b ∗ words d L s w (n + 64) 8192 (n + 64)) -∗ runs d L Q k) -∗ runs d L Q (gather L b o h k)) := by
  subst ho
  have hn : n + 64 ≤ 8192 := h 0
  unfold gather idle buf
  iintro ⟨⟨⟨%fd, Hb⟩, Hg, Hs, Hx⟩, Hw⟩ Hk
  ihave Hw' := (words_split d L s w (n + 64) (by omega) (by omega)).1 $$ Hw
  icases Hw' with ⟨Hc, Hw⟩
  iapply (SparseCore.wp_indirectGatherLocal countersEmb 𝒱₀ (thr d L) none (hg := gathers_S262144x128_S64x128) (default : HIx 1)
      (bufM b).view.dmaCredit (gather_credit b _) (by decide) (q := q b) (qo := fullShare) (fs := X) (fo := mix L s w (n + 64)) (list_inb (F := F) L s w hin n h)) $$ [Hx Hb Hc Hg]
  · isplitl [Hx]; · iexact Hx
    isplitl [Hb]; · iexact Hb
    isplitl [Hc]
    · rw [set_lChunk]; unfold words; iexact Hc
    iexact Hg
  iintro Hf
  iapply Hk
  isplitl [Hf Hs]
  · unfold filling
    isplitl [Hf]
    · iapply (Transfers.Flight_mono ?_) $$ Hf
      iintro ⟨Hb, Hx, Hc⟩
      isplitl [Hb]
      · unfold bufRows
        iexists _; isplitr
        swap; · iexact Hb
        ipureintro
        rw [View.read_write_univ]
        exact gather_payload L s w X n h rfl _
      isplitl [Hx]; · iexact Hx
      rw [words_congr d L s w (n' := n + 64) (.inr (.inl ⟨by omega, by omega⟩))]
      unfold words
      rw [← set_lChunk n h]; iexact Hc
    iexact Hs
  iexact Hw

/-- A wait of the tile's own on a flight. -/
theorem wait_rule (hO : ∀ g, O g none = 0) {s' s'' : Shape} {e' e'' : EltTy} {sp sp' : Space} {sem : DmaSem sig}
    {srcw : Memref sig .scVector sp' s' e'} {dstw : Memref sig .scVector sp s'' e''} {hsrc : srcw.view.WordExact} {hdst : dstw.view.WordExact}
    {k : PUnit.{1} → TP F L} {N : ℕ} (hN : dstw.view.dmaCredit = N) {D : sProp 𝕄} :
    iprop(Transfers.Flight countersEmb (thr d L) (.dma sem) (default : HIx 1) N D ∗ owing (F := F) d L O W)
      ⊢ iprop((iprop(D ∗ semVal (thr d L, SemLoc.dma sem) 0 ∗ owing (F := F) d L O W) -∗ runs d L Q (k ⟨⟩)) -∗ runs d L Q (.op (.waitDma2 sem srcw dstw hsrc hdst) k)) := by
  unfold owing
  iintro ⟨Hf, #Hlv, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) hN) $$ [Hf HO]
  · isplitl [Hf]; · iexact Hf
    isplitl [HO]; · iexact HO
    iapply (Transfers.MayWaits.elim (SemLoc.dma sem)) $$ Hmw
  iintro ⟨HD, Hz, HO⟩
  iapply Hk
  isplitl [HD]; · iexact HD
  isplitl [Hz]; · iexact Hz
  isplitr; · iexact Hlv
  iexists _; isplitr
  swap; · iexact HO
  ipureintro; intro p hp
  rcases Finset.mem_insert.mp hp with hp | hp
  · exact .inr (hp ▸ rfl)
  · exact hW' p hp

theorem send_credit (b : Fin 8) (o : Fin 2 → ℕ) (h) : (oChunk o h).view.dmaCredit = (bufM b).view.dmaCredit := by
  match b with
  | 0 | 1 | 2 | 3 | 4 | 5 | 6 | 7 => rfl
theorem send_amount (b : Fin 8) (o : Fin 2 → ℕ) (h) : (oChunk o h).view.amount (.dma (sSem b)) = (bufM b).view.dmaCredit := by
  match b with
  | 0 | 1 | 2 | 3 | 4 | 5 | 6 | 7 => rfl
theorem buf_credit_pos (b : Fin 8) : 0 < (bufM b).view.dmaCredit := View.dmaCredit_pos _ (by decide)

/-- A gather waited for and its rows sent on. -/
theorem send_rule (hO : ∀ g, O g none = 0) (b : Fin 8) (n : ℕ) (hn : n + 64 ≤ 8192) (o : Fin 2 → ℕ) (ho : o = ![base L + n, 0]) (h) (k : TP F L) :
    iprop(filling d L s w X q n b ∗ words d L s w 0 n 8192 ∗ todo d L Z n 8192 ∗ owing (F := F) d L O W)
      ⊢ iprop((iprop(sending d L s w X q n b ∗ words d L s w 0 (n + 64) 8192 ∗ todo d L Z (n + 64) 8192 ∗ owing (F := F) d L O W) -∗ runs d L Q k) -∗ runs d L Q (send L b o h k)) := by
  subst ho
  unfold send filling bufRows
  iintro ⟨⟨Hf, Hs⟩, Hw, Ht, HO⟩ Hk
  iapply (wait_rule d L O W hO rfl) $$ [Hf HO]
  · isplitl [Hf] <;> iassumption
  iintro ⟨⟨⟨%f, %hf, Hb⟩, Hx, Hc⟩, Hg, HO⟩
  ihave Ht' := (todo_split d L Z (n + 64) (by omega) hn).1 $$ Ht
  icases Ht' with ⟨Hr, Ht⟩
  iapply (Transfers.wp_dmaLocal countersEmb 𝒱₀ (thr d L) none (default : HIx 1) (bufM b).view.dmaCredit (dst := oChunk ![base L + n, 0] h) (sm := .dma (sSem b)) (send_amount b _ h) (buf_credit_pos b)
      (subset_refl (oChunk ![base L + n, 0] h).view.set) (fd := Z)) $$ [Hb Hr Hs]
  · isplitl [Hb]; · iexact Hb
    isplitl [Hr]
    · rw [set_oChunk]; unfold todo; iexact Hr
    iexact Hs
  iintro Hf
  iapply Hk
  isplitl [Hf Hg Hx]
  · unfold sending
    isplitl [Hf]
    · iapply (Transfers.Flight_mono ?_) $$ Hf
      iintro ⟨Hr, Hb⟩
      isplitl [Hr]
      · unfold done
        rw [show base L + (n + 64) = base L + n + 64 by omega, set_oChunk]
        rw [pointsTo_congr (g := outOf X s w) (fun j hj => by rw [hf]; exact send_value L s w X n h Z j hj)]
        exact .rfl
      iexists _; iexact Hb
    isplitl [Hg] <;> iassumption
  isplitl [Hw Hc]
  · iapply (words_split d L s w n (by omega) (by omega)).2
    isplitl [Hw] <;> iassumption
  isplitl [Ht] <;> iassumption

/-- A send waited for. -/
theorem drain_rule (hO : ∀ g, O g none = 0) (b : Fin 8) (n : ℕ) (o : Fin 2 → ℕ) (h) (k : TP F L) :
    iprop(sending d L s w X q n b ∗ done d L s w X 0 n ∗ owing (F := F) d L O W)
      ⊢ iprop((iprop(idle d L X q b ∗ done d L s w X 0 (n + 64) ∗ owing (F := F) d L O W) -∗ runs d L Q k) -∗ runs d L Q (drain L b o h k)) := by
  unfold drain sending
  iintro ⟨⟨Hf, Hg, Hx⟩, Hd, HO⟩ Hk
  iapply (wait_rule d L O W hO (send_credit b _ h)) $$ [Hf HO]
  · isplitl [Hf] <;> iassumption
  iintro ⟨⟨Hr, Hb⟩, Hs, HO⟩
  iapply Hk
  isplitl [Hb Hg Hs Hx]
  · unfold idle
    isplitl [Hb]; · iexact Hb
    isplitl [Hg]; · iexact Hg
    isplitl [Hs] <;> iassumption
  isplitl [Hd Hr]
  · iapply (done_split d L s w X n (by omega) (by omega)).2
    isplitl [Hd] <;> iassumption
  iexact HO

/-! ## A step of a trip -/

/-- What the steps hand on besides the buffers: the words behind and ahead, the rows behind and ahead, the debts. -/
def rest (n : ℕ) : sProp 𝕄 :=
  iprop(words d L s w (n + 512) 8192 (n + 512) ∗ words d L s w 0 (n + 256) 8192 ∗ done d L s w X 0 n ∗ todo d L Z (n + 256) 8192 ∗ owing (F := F) d L O W)

theorem step_rule (hin : ∀ r, r < 262144 → (adjW s (w r)).toNat < 262144) (hO : ∀ g, O g none = 0) (sh : IVec S16 32) (hsh : ∀ x, sh x = s)
    (t : Fin k0_t1_loop.trips) (r : Fin 8) (b b' : Fin 8) (k : TP F L) (n : ℕ) (hn : n = 512 * t.val + 64 * r.val) :
    iprop(filling d L s w X q (n + 256) b ∗ sending d L s w X q n b' ∗ rest d L s w X Z O W n)
      ⊢ iprop((iprop(sending d L s w X q (n + 256) b ∗ filling d L s w X q (n + 512) b' ∗ rest d L s w X Z O W (n + 64)) -∗ runs d L Q k)
          -∗ runs d L Q (step L sh t r b b' k)) := by
  have ht : t.val < 15 := t.isLt.trans_le k0_t1_abs.2.1
  have hr : r.val < 8 := r.isLt
  unfold step rest
  iintro ⟨Hf, Hs, Hw, Hl, Hd, Ht, HO⟩ Hk
  iapply (send_rule d L s w X Z q O W hO b (n + 256) (by omega) _ ((k0_off4_eq L t r).trans (by
      rw [base, hn]; congr 1; omega))) $$ [Hf Hl Ht HO]
  · isplitl [Hf]; · iexact Hf
    isplitl [Hl]; · iexact Hl
    isplitl [Ht] <;> iassumption
  iintro ⟨Hsb, Hl, Ht, HO⟩
  iapply (adjust_rule d L s w sh hsh (n + 512) (n + 512) le_rfl _ _ _ _
      ((k0_off5_eq t r 0).trans (by rw [hn]; congr 1)) ((k0_off5_eq t r 1).trans (by rw [hn]; congr 1))
      ((k0_off5_eq t r 2).trans (by rw [hn]; congr 1))
      ((k0_off5_eq t r 3).trans (by rw [hn]; congr 1))) $$ Hw
  iintro Hw
  iapply (drain_rule d L s w X q O W hO b' n) $$ [Hs Hd HO]
  · isplitl [Hs]; · iexact Hs
    isplitl [Hd] <;> iassumption
  iintro ⟨Hi, Hd, HO⟩
  iapply (gather_rule d L s w X q hin b' (n + 512) _ ((k0_off7_eq t r).trans (by rw [hn]))) $$ [Hi Hw]
  · isplitl [Hi] <;> iassumption
  iintro ⟨Hf, Hw⟩
  iapply Hk
  isplitl [Hsb]; · iexact Hsb
  isplitl [Hf]; · iexact Hf
  isplitl [Hw]
  · rw [show n + 64 + 512 = n + 512 + 64 by omega]; iexact Hw
  isplitl [Hl]
  · rw [show n + 64 + 256 = n + 256 + 64 by omega]; iexact Hl
  isplitl [Hd]; · iexact Hd
  isplitl [Ht]
  · rw [show n + 64 + 256 = n + 256 + 64 by omega]; iexact Ht
  iexact HO

end Cert.Proof.Roll

end
-- ==== Proof.Tile.lean ====
/-
  A tile's run: the fetches, the eight chunks before the first trip, the trips, what is left after the last.
-/
module

public import proofs.«01_k».proof.Proof.Rules

@[expose] public section

noncomputable section

namespace Cert.Proof.Roll

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (s : BitVec 32) (w : ℕ → BitVec 32) (X : S262144x128.Idx → Elt F .f32) (Z : S262144x128.Idx → Elt F .f32)
variable (q : Fin 8 → PosShare TreeShare) (O : CellTallies nD τ sig (HIx 1)) (W : Waits sig (HIx 1))

/-- The program with its last part in one piece. -/
theorem tile_eq : tile (F := F) L = fetch L fun v => opening L (shv v) <|
    Scf.Loop.for k0_t1_loop k0_t1_ok ⟨⟩ (fun t _ => trip (F := F) L (shv v) t) >>= fun _ => closing L := by
  rw [tile_eq']
  congr 1; funext v; congr 1
  rw [bind_assoc]; rfl

/-- The rows' offsets outside the trips, in closed form. -/
theorem off2_eq : ∀ (i : grid0.Coords) (r : Fin 12),
    k0_off2 i (k0_off2_at r) = ![16384 * (i 1).val + 8192 * (i 0).val + (k0_off2_at r).toNat, 0] := by decide +kernel

variable {Q : PUnit.{1} → sProp (MT nD τ sig (HIx 1) (Elt F) ℕ UU ℕ)}

/-! ## A trip -/

/-- Where trip `t` begins: the sends of the four chunks from `512 t` and the gathers of the next four under way. -/
def inv (n : ℕ) : sProp 𝕄 :=
  iprop((filling d L s w X q (n + 256) 4 ∗ filling d L s w X q (n + 320) 5 ∗ filling d L s w X q (n + 384) 6 ∗ filling d L s w X q (n + 448) 7)
    ∗ (sending d L s w X q n 0 ∗ sending d L s w X q (n + 64) 1 ∗ sending d L s w X q (n + 128) 2 ∗ sending d L s w X q (n + 192) 3)
    ∗ rest d L s w X Z O W n)

variable (hin : ∀ r, r < 262144 → (adjW s (w r)).toNat < 262144) (hO : ∀ g, O g none = 0) (sh : IVec S16 32) (hsh : ∀ x, sh x = s)

include hin hO hsh in
theorem trip_rule (t : Fin k0_t1_loop.trips) :
    inv d L s w X Z q O W (512 * t.val)
      ⊢ wp frame (wpE (defs₀ (F := F)) 𝒱₀ (thr d L) none) Set.univ (trip (F := F) L sh t) (fun _ => inv d L s w X Z q O W (512 * (t.val + 1))) := by
  rw [show 512 * (t.val + 1) = 512 * t.val + 512 by omega]
  generalize hn : 512 * t.val = n
  have hk : ∀ (r : Fin 8) (k : ℕ), k = 64 * r.val → n + k = 512 * t.val + 64 * r.val := fun r k h => by omega
  unfold trip inv
  iintro ⟨⟨F4, F5, F6, F7⟩, ⟨S0, S1, S2, S3⟩, HR⟩
  iapply (step_rule d L s w X Z q O W hin hO sh hsh t 0 4 0 _ n (hk 0 0 rfl)) $$ [F4 S0 HR]
  · isplitl [F4]; · iexact F4
    isplitl [S0] <;> iassumption
  iintro ⟨S4, F0, HR⟩
  iapply (step_rule d L s w X Z q O W hin hO sh hsh t 1 5 1 _ (n + 64) (hk 1 _ rfl)) $$ [F5 S1 HR]
  · isplitl [F5]; · iexact F5
    isplitl [S1] <;> iassumption
  iintro ⟨S5, F1, HR⟩
  iapply (step_rule d L s w X Z q O W hin hO sh hsh t 2 6 2 _ (n + 128) (hk 2 _ rfl)) $$ [F6 S2 HR]
  · isplitl [F6]; · iexact F6
    isplitl [S2] <;> iassumption
  iintro ⟨S6, F2, HR⟩
  iapply (step_rule d L s w X Z q O W hin hO sh hsh t 3 7 3 _ (n + 192) (hk 3 _ rfl)) $$ [F7 S3 HR]
  · isplitl [F7]; · iexact F7
    isplitl [S3] <;> iassumption
  iintro ⟨S7, F3, HR⟩
  iapply (step_rule d L s w X Z q O W hin hO sh hsh t 4 0 4 _ (n + 256) (hk 4 _ rfl)) $$ [F0 S4 HR]
  · isplitl [F0]; · iexact F0
    isplitl [S4] <;> iassumption
  iintro ⟨S0, F4, HR⟩
  iapply (step_rule d L s w X Z q O W hin hO sh hsh t 5 1 5 _ (n + 320) (hk 5 _ rfl)) $$ [F1 S5 HR]
  · isplitl [F1]; · iexact F1
    isplitl [S5] <;> iassumption
  iintro ⟨S1, F5, HR⟩
  iapply (step_rule d L s w X Z q O W hin hO sh hsh t 6 2 6 _ (n + 384) (hk 6 _ rfl)) $$ [F2 S6 HR]
  · isplitl [F2]; · iexact F2
    isplitl [S6] <;> iassumption
  iintro ⟨S2, F6, HR⟩
  iapply (step_rule d L s w X Z q O W hin hO sh hsh t 7 3 7 _ (n + 448) (hk 7 _ rfl)) $$ [F3 S7 HR]
  · isplitl [F3]; · iexact F3
    isplitl [S7] <;> iassumption
  iintro ⟨S3, F7, HR⟩
  unfold runs; sl_step
  isplitl [F4 F5 F6 F7]
  · isplitl [F4]; · iexact F4
    isplitl [F5]; · iexact F5
    isplitl [F6] <;> iassumption
  isplitl [S0 S1 S2 S3]
  · isplitl [S0]; · iexact S0
    isplitl [S1]; · iexact S1
    isplitl [S2] <;> iassumption
  iexact HR

/-! ## The ends -/

theorem off2_at (r : Fin 12) (v : BitVec 32) (hv : v = k0_off2_at r) (n : ℕ) (hn : v.toNat = n) : k0_off2 L v = ![base L + n, 0] := by
  subst hv hn; exact off2_eq L r

include hin hsh in
/-- A chunk made ready and gathered into a free buffer. -/
theorem fill_rule (b : Fin 8) (n n' : ℕ) (hn : n' = n + 64) (h : n ≤ 8128) (h') (k : TP F L) :
    iprop(idle d L X q b ∗ words d L s w n 8192 n)
      ⊢ iprop((iprop(filling d L s w X q n b ∗ words d L s w n' 8192 n') -∗ runs d L Q k) -∗ runs d L Q (adjustAt L sh n h (gather L b ![n] h' k))) := by
  subst hn
  unfold adjustAt
  iintro ⟨Hi, Hw⟩ Hk
  iapply (adjust_rule d L s w sh hsh n n le_rfl _ _ _ _ rfl rfl rfl rfl) $$ Hw
  iintro Hw
  iapply (gather_rule d L s w X q hin b n _ rfl) $$ [Hi Hw]
  · isplitl [Hi] <;> iassumption
  iexact Hk

include hO in
/-- A send outside the trips, what stays over put together. -/
theorem send_at (b : Fin 8) (r : Fin 12) (v : BitVec 32) (hv : v = k0_off2_at r) (n n' : ℕ) (hvn : v.toNat = n) (hn' : n' = n + 64) (hn : n' ≤ 8192) (h) (k : TP F L) :
    iprop(filling d L s w X q n b ∗ words d L s w 0 n 8192 ∗ todo d L Z n 8192 ∗ owing (F := F) d L O W)
      ⊢ iprop((iprop(sending d L s w X q n b ∗ words d L s w 0 n' 8192 ∗ todo d L Z n' 8192 ∗ owing (F := F) d L O W) -∗ runs d L Q k)
          -∗ runs d L Q (send L b (k0_off2 L v) h k)) := by
  subst hn'
  exact send_rule d L s w X Z q O W hO b n hn _ (off2_at L r v hv n hvn) h k

include hO in
theorem drain_at (b : Fin 8) (n n' : ℕ) (hn' : n' = n + 64) (o : Fin 2 → ℕ) (h) (k : TP F L) :
    iprop(sending d L s w X q n b ∗ done d L s w X 0 n ∗ owing (F := F) d L O W)
      ⊢ iprop((iprop(idle d L X q b ∗ done d L s w X 0 n' ∗ owing (F := F) d L O W) -∗ runs d L Q k) -∗ runs d L Q (drain L b o h k)) := by
  subst hn'; exact drain_rule d L s w X q O W hO b n o h k

/-- The eight buffers free. -/
def allIdle : sProp 𝕄 := iprop(idle d L X q 0 ∗ idle d L X q 1 ∗ idle d L X q 2 ∗ idle d L X q 3 ∗ idle d L X q 4 ∗ idle d L X q 5 ∗ idle d L X q 6 ∗ idle d L X q 7)

theorem words_none (n m : ℕ) : (emp : sProp 𝕄) ⊢ words (F := F) d L s w n n m := by
  unfold words; rw [Wset_none, pointsTo_empty]
theorem done_none (n : ℕ) : (emp : sProp 𝕄) ⊢ done d L s w X n n := by
  unfold done; rw [Oset_none, pointsTo_empty]

include hin hO hsh in
theorem opening_rule (k : TP F L) :
    iprop(allIdle d L X q ∗ words d L s w 0 8192 0 ∗ todo d L Z 0 8192 ∗ owing (F := F) d L O W)
      ⊢ iprop((inv d L s w X Z q O W 0 -∗ runs d L Q k) -∗ runs d L Q (opening L sh k)) := by
  unfold opening inv rest allIdle
  iintro ⟨⟨I0, I1, I2, I3, I4, I5, I6, I7⟩, Hw, Ht, HO⟩ Hk
  iapply (fill_rule d L s w X q hin sh hsh 0 0 64 rfl) $$ [I0 Hw]
  · isplitl [I0] <;> iassumption
  iintro ⟨F0, Hw⟩
  iapply (fill_rule d L s w X q hin sh hsh 1 64 128 rfl) $$ [I1 Hw]
  · isplitl [I1] <;> iassumption
  iintro ⟨F1, Hw⟩
  iapply (fill_rule d L s w X q hin sh hsh 2 128 192 rfl) $$ [I2 Hw]
  · isplitl [I2] <;> iassumption
  iintro ⟨F2, Hw⟩
  iapply (fill_rule d L s w X q hin sh hsh 3 192 256 rfl) $$ [I3 Hw]
  · isplitl [I3] <;> iassumption
  iintro ⟨F3, Hw⟩
  ihave Hl := (words_none (F := F) d L s w 0 8192) $$ []
  · iempintro
  iapply (send_at d L s w X Z q O W hO 0 0 _ rfl 0 64 rfl rfl (by decide)) $$ [F0 Hl Ht HO]
  · isplitl [F0]; · iexact F0
    isplitl [Hl]; · iexact Hl
    isplitl [Ht] <;> iassumption
  iintro ⟨S0, Hl, Ht, HO⟩
  iapply (fill_rule d L s w X q hin sh hsh 4 256 320 rfl) $$ [I4 Hw]
  · isplitl [I4] <;> iassumption
  iintro ⟨F4, Hw⟩
  iapply (send_at d L s w X Z q O W hO 1 1 _ rfl 64 128 rfl rfl (by decide)) $$ [F1 Hl Ht HO]
  · isplitl [F1]; · iexact F1
    isplitl [Hl]; · iexact Hl
    isplitl [Ht] <;> iassumption
  iintro ⟨S1, Hl, Ht, HO⟩
  iapply (fill_rule d L s w X q hin sh hsh 5 320 384 rfl) $$ [I5 Hw]
  · isplitl [I5] <;> iassumption
  iintro ⟨F5, Hw⟩
  iapply (send_at d L s w X Z q O W hO 2 2 _ rfl 128 192 rfl rfl (by decide)) $$ [F2 Hl Ht HO]
  · isplitl [F2]; · iexact F2
    isplitl [Hl]; · iexact Hl
    isplitl [Ht] <;> iassumption
  iintro ⟨S2, Hl, Ht, HO⟩
  iapply (fill_rule d L s w X q hin sh hsh 6 384 448 rfl) $$ [I6 Hw]
  · isplitl [I6] <;> iassumption
  iintro ⟨F6, Hw⟩
  iapply (send_at d L s w X Z q O W hO 3 3 _ rfl 192 256 rfl rfl (by decide)) $$ [F3 Hl Ht HO]
  · isplitl [F3]; · iexact F3
    isplitl [Hl]; · iexact Hl
    isplitl [Ht] <;> iassumption
  iintro ⟨S3, Hl, Ht, HO⟩
  iapply (fill_rule d L s w X q hin sh hsh 7 448 512 rfl) $$ [I7 Hw]
  · isplitl [I7] <;> iassumption
  iintro ⟨F7, Hw⟩
  iapply Hk
  isplitl [F4 F5 F6 F7]
  · isplitl [F4]; · iexact F4
    isplitl [F5]; · iexact F5
    isplitl [F6] <;> iassumption
  isplitl [S0 S1 S2 S3]
  · isplitl [S0]; · iexact S0
    isplitl [S1]; · iexact S1
    isplitl [S2] <;> iassumption
  isplitl [Hw]; · iexact Hw
  isplitl [Hl]; · iexact Hl
  isplitr
  · iapply (done_none d L s w X 0); iempintro
  isplitl [Ht] <;> iassumption

include hO in
theorem closing_rule :
    inv d L s w X Z q O W 7680
      ⊢ runs d L (fun _ => iprop(allIdle d L X q ∗ words d L s w 0 8192 8192 ∗ done d L s w X 0 8192 ∗ owing (F := F) d L O W)) (closing L) := by
  unfold closing inv rest allIdle
  iintro ⟨⟨F4, F5, F6, F7⟩, ⟨S0, S1, S2, S3⟩, -, Hl, Hd, Ht, HO⟩
  iapply (send_at d L s w X Z q O W hO 4 4 _ rfl 7936 8000 rfl rfl (by decide)) $$ [F4 Hl Ht HO]
  · isplitl [F4]; · iexact F4
    isplitl [Hl]; · iexact Hl
    isplitl [Ht] <;> iassumption
  iintro ⟨S4, Hl, Ht, HO⟩
  iapply (send_at d L s w X Z q O W hO 5 5 _ rfl 8000 8064 rfl rfl (by decide)) $$ [F5 Hl Ht HO]
  · isplitl [F5]; · iexact F5
    isplitl [Hl]; · iexact Hl
    isplitl [Ht] <;> iassumption
  iintro ⟨S5, Hl, Ht, HO⟩
  iapply (send_at d L s w X Z q O W hO 6 6 _ rfl 8064 8128 rfl rfl (by decide)) $$ [F6 Hl Ht HO]
  · isplitl [F6]; · iexact F6
    isplitl [Hl]; · iexact Hl
    isplitl [Ht] <;> iassumption
  iintro ⟨S6, Hl, Ht, HO⟩
  iapply (send_at d L s w X Z q O W hO 7 7 _ rfl 8128 8192 rfl rfl (by decide)) $$ [F7 Hl Ht HO]
  · isplitl [F7]; · iexact F7
    isplitl [Hl]; · iexact Hl
    isplitl [Ht] <;> iassumption
  iintro ⟨S7, Hl, -, HO⟩
  iapply (drain_at d L s w X q O W hO 0 7680 7744 rfl) $$ [S0 Hd HO]
  · isplitl [S0]; · iexact S0
    isplitl [Hd] <;> iassumption
  iintro ⟨I0, Hd, HO⟩
  iapply (drain_at d L s w X q O W hO 1 7744 7808 rfl) $$ [S1 Hd HO]
  · isplitl [S1]; · iexact S1
    isplitl [Hd] <;> iassumption
  iintro ⟨I1, Hd, HO⟩
  iapply (drain_at d L s w X q O W hO 2 7808 7872 rfl) $$ [S2 Hd HO]
  · isplitl [S2]; · iexact S2
    isplitl [Hd] <;> iassumption
  iintro ⟨I2, Hd, HO⟩
  iapply (drain_at d L s w X q O W hO 3 7872 7936 rfl) $$ [S3 Hd HO]
  · isplitl [S3]; · iexact S3
    isplitl [Hd] <;> iassumption
  iintro ⟨I3, Hd, HO⟩
  iapply (drain_at d L s w X q O W hO 4 7936 8000 rfl) $$ [S4 Hd HO]
  · isplitl [S4]; · iexact S4
    isplitl [Hd] <;> iassumption
  iintro ⟨I4, Hd, HO⟩
  iapply (drain_at d L s w X q O W hO 5 8000 8064 rfl) $$ [S5 Hd HO]
  · isplitl [S5]; · iexact S5
    isplitl [Hd] <;> iassumption
  iintro ⟨I5, Hd, HO⟩
  iapply (drain_at d L s w X q O W hO 6 8064 8128 rfl) $$ [S6 Hd HO]
  · isplitl [S6]; · iexact S6
    isplitl [Hd] <;> iassumption
  iintro ⟨I6, Hd, HO⟩
  iapply (drain_at d L s w X q O W hO 7 8128 8192 rfl) $$ [S7 Hd HO]
  · isplitl [S7]; · iexact S7
    isplitl [Hd] <;> iassumption
  iintro ⟨I7, Hd, HO⟩
  unfold runs; sl_step
  isplitl [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6] <;> iassumption
  isplitl [Hl]; · iexact Hl
  isplitl [Hd] <;> iassumption

theorem trips_eq : Scf.trips k0_t1_loop.lb k0_t1_loop.ub k0_t1_loop.st = 15 := by decide

include hin hO hsh in
/-- All that follows the fetches. -/
theorem rest_rule :
    iprop(allIdle d L X q ∗ words d L s w 0 8192 0 ∗ todo d L Z 0 8192 ∗ owing (F := F) d L O W)
      ⊢ runs d L (fun _ => iprop(allIdle d L X q ∗ words d L s w 0 8192 8192 ∗ done d L s w X 0 8192 ∗ owing (F := F) d L O W))
          (opening L sh <| Scf.Loop.for k0_t1_loop k0_t1_ok ⟨⟩ (fun t _ => trip (F := F) L sh t) >>= fun _ => closing L) := by
  iintro H
  iapply (opening_rule d L s w X Z q O W hin hO sh hsh) $$ H
  iintro H
  iapply (Scf.wp_for_bind frame (wpE (defs₀ (F := F)) 𝒱₀ (thr d L) none) Set.univ _ _ _ k0_t1_ok _ _
    (fun t _ => inv d L s w X Z q O W (512 * t)) fun t _ => trip_rule d L s w X Z q O W hin hO sh hsh t) $$ H
  iintro %_ H
  rw [trips_eq]
  iapply (closing_rule d L s w X Z q O W hO) $$ H

/-! ## The fetches -/

theorem shv_apply (v : Vec F S16 .i32) (x : S16.Idx) : shv v x = v x := by
  unfold shv k0_pay44
  rw [shapeCast_self]

/-- The list as it is fetched. -/
theorem list_fetched (I : S262144.Idx → BitVec 32) (n : ℕ) (hn : n = base L) (h : ∀ a, (![n] : Fin 1 → ℕ) a + S8192.size a ≤ S262144.size a) :
    (iM.slice (Rect.unit (s := S262144) ![n] S8192.size h) (fun _ => rfl)).view.read (Elt F) I = mix L s (wordOf I) 0 := by
  subst hn
  funext x
  rw [View.read_apply]
  refine (cast_eq _ _).trans ?_
  unfold mix
  rw [if_neg (by omega)]
  have he : (((iM.slice (Rect.unit (s := S262144) ![base L] S8192.size h) (fun _ => rfl)).view.emb x (0 : Fin 1) : Fin 262144) : ℕ) = base L + (x 0).val :=
    ValueKit.view_emb_slice_whole_unit_val _ _ _ _ _ _
  exact (wordOf_apply I _ _ he.symm).symm

theorem shift_access : (vM.access (Rect.unit (s := S16) ![0] S16.size inb_S16_S16_0)).set ⊆ vM.view.set := by
  rw [show vM.view.set = Finset.univ from View.set_whole _]; exact Finset.subset_univ _

/-- What a fetch takes: the tile's row numbers, a share of the shift's sixteen words, the two buffers, the two cells at
    zero. -/
def fetched (qh : PosShare TreeShare) (I : S262144.Idx → BitVec 32) (H : S16.Idx → BitVec 32) : sProp 𝕄 :=
  iprop((iM.view.loc (thr d L) ↦[Iset (base L) (base L + 8192)]{fullShare} I) ∗ (hM.view.loc (thr d L) ↦[hM.view.set]{qh} H)
    ∗ semVal (thr d L, SemLoc.dma cc0_scoped0.sem) 0 ∗ semVal (thr d L, SemLoc.dma cc0_scoped1.sem) 0)

include hO in
theorem fetch_rule (qh : PosShare TreeShare) (I : S262144.Idx → BitVec 32) (H : S16.Idx → BitVec 32) (hH : ∀ x, H x = s)
    (fl : S8192.Idx → BitVec 32) (fv : S16.Idx → BitVec 32) (k : Vec F S16 .i32 → TP F L) :
    iprop(fetched d L qh I H ∗ (lM.view.loc (thr d L) ↦[lM.view.set]{fullShare} fl) ∗ (vM.view.loc (thr d L) ↦[vM.view.set]{fullShare} fv) ∗ owing (F := F) d L O W)
      ⊢ iprop((∀ v : Vec F S16 .i32, ⌜∀ x, shv v x = s⌝ -∗
            iprop(fetched d L qh I H ∗ words d L s (wordOf I) 0 8192 0 ∗ (vM.view.loc (thr d L) ↦[vM.view.set]{fullShare} H) ∗ owing (F := F) d L O W) -∗ runs d L Q (k v))
          -∗ runs d L Q (fetch L k)) := by
  unfold fetched fetch
  have hi := k0_off1_eq L
  have hoff : k0_off1 L = ![base L] := by rw [hi]; rfl
  have key : ∀ (o : Fin 1 → ℕ) (ho : o = ![base L]) (h : ∀ a, o a + S8192.size a ≤ S262144.size a),
      (iM.slice (Rect.unit (s := S262144) o S8192.size h) (fun _ => rfl)).view.set = Iset (base L) (base L + 8192)
      ∧ (iM.slice (Rect.unit (s := S262144) o S8192.size h) (fun _ => rfl)).view.read (Elt F) I = mix L s (wordOf I) 0 := by
    intro o ho h; subst ho; exact ⟨set_iSlice _ h, list_fetched L s I _ rfl h⟩
  obtain ⟨kset, kread⟩ := key _ hoff (k0_off1_inb L)
  iintro ⟨⟨HI, HH, H0, H1⟩, Hl, Hv, HO⟩ Hk
  iapply (Transfers.wp_dmaLocal countersEmb 𝒱₀ (thr d L) none (default : HIx 1) lM.view.dmaCredit (dst := lM) (sm := .dma cc0_scoped0.sem) rfl
      (View.dmaCredit_pos _ (by decide)) (subset_refl lM.view.set) (fs := I) (fd := fl)) $$ [HI Hl H0]
  · isplitl [HI]
    · rw [kset]; iexact HI
    isplitl [Hl] <;> iassumption
  iintro Hf
  iapply (wait_rule d L O W hO rfl) $$ [Hf HO]
  · isplitl [Hf] <;> iassumption
  iintro ⟨⟨Hl, HI⟩, H0, HO⟩
  iapply (Transfers.wp_dmaLocal countersEmb 𝒱₀ (thr d L) none (default : HIx 1) vM.view.dmaCredit (dst := vM) (sm := .dma cc0_scoped1.sem) rfl
      (View.dmaCredit_pos _ (by decide)) (subset_refl vM.view.set) (fs := H) (fd := fv)) $$ [HH Hv H1]
  · isplitl [HH]; · iexact HH
    isplitl [Hv] <;> iassumption
  iintro Hf
  iapply (wait_rule d L O W hO rfl) $$ [Hf HO]
  · isplitl [Hf] <;> iassumption
  iintro ⟨⟨Hv, HH⟩, H1, HO⟩
  iapply (wp_load_rect 𝒱₀ (thr d L) none Set.univ (m := vM) shift_access) $$ Hv
  iintro Hv
  ispecialize Hk $$ %((vM.access (Rect.unit (s := S16) ![0] S16.size inb_S16_S16_0)).read (Elt F) (vM.view.write (Elt F) fv (hM.view.read (Elt F) H) Finset.univ))
  iapply Hk $$ [] [HI HH H0 H1 Hl Hv HO]
  · ipureintro; intro x
    rw [shv_apply, View.read_apply]
    refine (cast_eq _ _).trans ?_
    rw [View.write_whole_univ]
    exact hH _
  isplitl [HI HH H0 H1]
  · isplitl [HI]
    · rw [kset]; iexact HI
    isplitl [HH]; · iexact HH
    isplitl [H0] <;> iassumption
  isplitl [Hl]
  · unfold words
    rw [Wset_all, kread, show lM.view.set = Finset.univ from View.set_whole _, View.write_whole_univ]
    exact .rfl
  isplitl [Hv]
  · rw [View.write_whole_univ]
    exact .rfl
  iexact HO

end Cert.Proof.Roll

end
-- ==== Proof.Body.lean ====
/-
  A tile's task as the launch hands it out: the tile's own buffers and semaphores sorted into the ring's, its part of the
  operands, and the run from one end to the other.
-/
module

public import proofs.«01_k».proof.Proof.Tile
public import Idealize.ShloMosaic.Lib.ShareLeaves

@[expose] public section

noncomputable section

namespace Cert.Proof.Roll

open Cert.KernelIdeal Cert.KernelIdeal.Gen
open Idealize.ShloMosaic
open Idealize.ShloMosaic.SparseCore (S V T)
open Idealize.ShloMosaic.SparseCore.Cfg (HIx Pay ownSems0 ownBufs ownRefs ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 1) (Elt F) ℕ UU ℕ

/-- A family of different members of a set, and the rest of the set. -/
theorem bigSep_family {I J : Type} [Fintype I] [DecidableEq I] [DecidableEq J] (f : I → J) (hf : Function.Injective f) (s : Finset J)
    (hs : ∀ i, f i ∈ s) (Φ : J → sProp 𝕄) :
    bigSep s Φ = iprop((bigSep Finset.univ fun i => Φ (f i)) ∗ bigSep (s \ Finset.univ.image f) Φ) := by
  rw [SparseCore.bigSep_sdiff_split' (t := Finset.univ.image f) (fun j hj => by
    obtain ⟨i, -, rfl⟩ := Finset.mem_image.mp hj; exact hs i), SparseCore.bigSep_image_of_injOn hf.injOn]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem bigSep_two (Φ : Fin 2 → sProp 𝕄) : bigSep Finset.univ Φ = iprop(Φ 0 ∗ Φ 1) :=
  bigSep_univ_eq_bigSepL [0, 1] (by decide) (by decide) Φ

/-! ## The tile's own buffers and semaphores -/

/-- The tile's buffers: the list, the shift, the ring's eight. -/
def ownR : Fin 2 ⊕ Fin 8 → Ref sig .scVector
  | .inl 0 => cc0_scratch0 | .inl 1 => cc0_scratch1 | .inr b => bufR b
/-- The tile's semaphores: the two fetches', the gathers', the sends'. -/
def ownD : Fin 2 ⊕ (Fin 8 ⊕ Fin 8) → SemLoc sig
  | .inl 0 => .dma cc0_scoped0.sem | .inl 1 => .dma cc0_scoped1.sem | .inr (.inl b) => .dma (gSem b) | .inr (.inr b) => .dma (sSem b)

theorem ownR_injective : Function.Injective ownR := by decide
theorem ownD_injective : Function.Injective ownD := by decide
theorem ownD_scoped : ∀ x, (ownD x).isScoped .scVector = true := by decide

variable (d : Dev nD) (L : grid0.Coords)

/-- A buffer of the tile's, whole at some contents. -/
abbrev mine (r : Ref sig .scVector) : sProp 𝕄 := iprop(∃ f, (thr d L).loc r ↦{fullShare} f)

/-- What is left of the tile's own buffers, and of its own semaphores. -/
def otherBufs : sProp 𝕄 :=
  bigSep (ownRefs (τ := τ) (.scVector (cV L) (jV L)) \ Finset.univ.image fun x => (Proc.scVector (cV L) (jV L)).devRef (ownR x))
    fun b => iprop(∃ f, ((d, b) : Loc nD τ sig) ↦{fullShare} f)
def otherSems : sProp 𝕄 :=
  bigSep (ownCells (thr d L) \ Finset.univ.image fun x => (thr d L, ownD x)) fun g => semVal g 0

theorem ownBufs_tile :
    (ownBufs (thr d L) : sProp 𝕄)
      = iprop(((mine d L cc0_scratch0 ∗ mine d L cc0_scratch1) ∗ bigSep Finset.univ fun b : Fin 8 => mine d L (bufR b)) ∗ otherBufs d L) := by
  unfold SparseCore.Cfg.ownBufs otherBufs
  refine (bigSep_family (F := F) (fun x => (Proc.scVector (cV L) (jV L)).devRef (ownR x)) ((Proc.devRef_injective _).comp ownR_injective)
    (ownRefs (τ := τ) (.scVector (cV L) (jV L)))
    (fun x => SparseCore.Cfg.mem_ownRefs_of_owner (p := Proc.scVector (cV L) (jV L)) (by
      rcases x with x | x
      · match x with | 0 | 1 => rfl
      · match x with | 0 | 1 | 2 | 3 | 4 | 5 | 6 | 7 => rfl)) _).trans ?_
  rw [bigSep_univ_sum, bigSep_two]
  rfl

theorem ownSems0_tile :
    (ownSems0 (thr d L) : sProp 𝕄)
      = iprop(((semVal (thr d L, SemLoc.dma cc0_scoped0.sem) 0 ∗ semVal (thr d L, SemLoc.dma cc0_scoped1.sem) 0)
          ∗ (bigSep Finset.univ fun b : Fin 8 => gZero d L b) ∗ bigSep Finset.univ fun b : Fin 8 => sZero d L b) ∗ otherSems d L) := by
  unfold SparseCore.Cfg.ownSems0 otherSems
  refine (bigSep_family (F := F) (fun x => ((thr d L, ownD x) : GSem nD τ sig)) (fun x y e => ownD_injective (Prod.mk.inj e).2)
    (ownCells (thr d L)) (fun x => mem_ownCells.mpr ⟨rfl, ownD_scoped x⟩) _).trans ?_
  rw [bigSep_univ_sum, bigSep_two, bigSep_univ_sum]
  rfl

/-- A ring buffer whole is the buffer as the ring's steps take it. -/
theorem buf_eq (b : Fin 8) : (mine d L (bufR b) : sProp 𝕄) = buf d L b := by
  unfold buf
  rw [set_bufM]
  match b with
  | 0 | 1 | 2 | 3 | 4 | 5 | 6 | 7 => rfl

variable (X : S262144x128.Idx → Elt F .f32)

/-- A buffer's part of the tile's share `q` of `x`. -/
abbrev part (q : PosShare TreeShare) (b : Fin 8) : PosShare TreeShare := leaf 3 q b

/-- All buffers free, from what a tile is given. -/
theorem allIdle_eq (q : PosShare TreeShare) :
    allIdle d L X (part q)
      = iprop((bigSep Finset.univ fun b : Fin 8 => mine d L (bufR b)) ∗ (bigSep Finset.univ fun b : Fin 8 => gZero d L b)
          ∗ (bigSep Finset.univ fun b : Fin 8 => sZero d L b) ∗ xLoc d ↦{q} X) := by
  unfold allIdle idle
  rw [← bigSep_fin8 (F := F) (fun b => iprop(buf d L b ∗ gZero d L b ∗ sZero d L b ∗ xShare d L X (part q) b)), bigSep_sep', bigSep_sep', bigSep_sep',
    bigSep_congr (Φ := fun b : Fin 8 => mine d L (bufR b)) (Ψ := fun b => buf d L b) fun b _ => buf_eq d L b]
  congr 3
  refine Eq.symm ((pointsTo_leaves (ℓ := xLoc d) Finset.univ X 3 q).trans ?_)
  unfold xShare
  rw [set_xAll]
  rfl

/-! ## The task -/

variable (s : BitVec 32) (Z : S262144x128.Idx → Elt F .f32) (I : S262144.Idx → BitVec 32) (H : S16.Idx → BitVec 32) (q : PosShare TreeShare)

/-- What a tile is given and gives back: its row numbers, its share of the sixteen words of shift and of `x`, its part of
    the result at contents `R`. -/
def load (R : S262144x128.Idx → Elt F .f32) : sProp 𝕄 :=
  iprop((iLoc d ↦[Iset (base L) (base L + 8192)]{fullShare} I) ∗ (hLoc d ↦{q} H) ∗ (xLoc d ↦{q} X)
    ∗ oLoc d ↦[Oset (base L) (base L + 8192)]{fullShare} R)

/-- What a tile holds at the end is what it gives back. -/
theorem task_end (O : CellTallies nD τ sig (HIx 1)) (W : Waits sig (HIx 1)) :
    iprop(fetched d L q I H ∗ (vM.view.loc (thr d L) ↦[vM.view.set]{fullShare} H) ∗ otherBufs d L ∗ otherSems d L
        ∗ allIdle d L X (part q) ∗ words d L s (wordOf I) 0 8192 8192 ∗ done d L s (wordOf I) X 0 8192 ∗ owing (F := F) d L O W)
      ⊢ iprop(load d L X I H q (outOf X s (wordOf I))
          ∗ (((mine d L cc0_scratch0 ∗ mine d L cc0_scratch1) ∗ bigSep Finset.univ fun b : Fin 8 => mine d L (bufR b)) ∗ otherBufs d L)
          ∗ (((semVal (thr d L, SemLoc.dma cc0_scoped0.sem) 0 ∗ semVal (thr d L, SemLoc.dma cc0_scoped1.sem) 0)
            ∗ (bigSep Finset.univ fun b : Fin 8 => gZero d L b) ∗ bigSep Finset.univ fun b : Fin 8 => sZero d L b) ∗ otherSems d L)
          ∗ ∃ W', ⌜∀ p ∈ W', p ∈ W ∨ p.2 = none⌝ ∗ owes (thr d L) O W') := by
  rw [allIdle_eq]
  unfold fetched words done owing load
  iintro ⟨⟨HI, HH, H0, H1⟩, Hv, Hob, Hos, ⟨Hb, Hg, Hs, Hx⟩, Hw, Hd, -, HO⟩
  isplitl [HI HH Hx Hd]
  · isplitl [HI]; · iexact HI
    isplitl [HH]
    · rw [show hM.view.set = Finset.univ from View.set_whole _]; iexact HH
    isplitl [Hx]; · iexact Hx
    iexact Hd
  isplitl [Hw Hv Hb Hob]
  · isplitr [Hob]
    · isplitr [Hb]
      · isplitl [Hw]
        · iexists _; rw [Wset_all]; iexact Hw
        · iexists _; rw [show vM.view.set = Finset.univ from View.set_whole _]; iexact Hv
      iexact Hb
    iexact Hob
  isplitr [HO]
  · isplitr [Hos]
    · isplitl [H0 H1]
      · isplitl [H0] <;> iassumption
      isplitl [Hg] <;> iassumption
    iexact Hos
  iexact HO

set_option maxHeartbeats 1000000 in
theorem tile_body (hF : (K (F := F)).Facts) (hin : ∀ r, r < 262144 → (adjW s (wordOf I r)).toNat < 262144) (hH : ∀ x, H x = s)
    (O : CellTallies nD τ sig (HIx 1)) (W : Waits sig (HIx 1)) (hO : ∀ g, O g none = 0) :
    iprop(levAts (K (F := F)).L (K (F := F)).lev ∗ emp ∗ load d L X I H q Z
        ∗ scopedBufs (thr d L) ∗ scopedSems0 (thr d L) ∗ owes (thr d L) O W)
      ⊢ runs d L (fun _ => iprop(load d L X I H q (outOf X s (wordOf I)) ∗ scopedBufs (thr d L) ∗ scopedSems0 (thr d L)
          ∗ ∃ W', ⌜∀ p ∈ W', p ∈ W ∨ p.2 = none⌝ ∗ owes (thr d L) O W')) (tile (F := F) L) := by
  rw [tile_eq, (K (F := F)).scopedBufs_V hF d (cV L) (jV L), SparseCore.Cfg.scopedSems0_V (Val := Elt F) d (cV L) (jV L), ownSems0_tile, ownBufs_tile]
  unfold load
  iintro ⟨Hlv, -, ⟨HI, HH, Hx, Ho⟩, ⟨⟨⟨⟨%fl, Hl⟩, %fv, Hv⟩, Hb⟩, Hob⟩, ⟨⟨⟨H0, H1⟩, Hg, Hs⟩, Hos⟩, HO⟩
  iapply (fetch_rule d L s O W hO q I H hH fl fv) $$ [Hlv HO HI HH H0 H1 Hl Hv]
  · unfold fetched owing
    isplitl [HI HH H0 H1]
    · isplitl [HI]; · iexact HI
      isplitl [HH]
      · rw [show hM.view.set = Finset.univ from View.set_whole _]; iexact HH
      isplitl [H0] <;> iassumption
    isplitl [Hl]
    · rw [show lM.view.set = Finset.univ from View.set_whole _]; iexact Hl
    isplitl [Hv]
    · rw [show vM.view.set = Finset.univ from View.set_whole _]; iexact Hv
    isplitl [Hlv]; · iexact Hlv
    iexists W; isplitr
    · ipureintro; exact fun p hp => .inl hp
    iexact HO
  iintro %v %hv ⟨Hf, Hw, Hv, HO⟩
  iapply (wp_wand frame (wpE (defs₀ (F := F)) 𝒱₀ (thr d L) none) Set.univ) $$ [Hw HO Hb Hg Hs Hx Ho]
  · iapply (rest_rule d L s (wordOf I) X Z (part q) O W hin hO (shv v) hv)
    isplitl [Hb Hg Hs Hx]
    · rw [allIdle_eq]
      isplitl [Hb]; · iexact Hb
      isplitl [Hg]; · iexact Hg
      isplitl [Hs] <;> iassumption
    isplitl [Hw]; · iexact Hw
    isplitl [Ho]
    · unfold todo; iexact Ho
    iexact HO
  iintro %_ ⟨Hi, Hw, Hd, HO⟩
  iapply (task_end d L X s I H q O W)
  isplitl [Hf]; · iexact Hf
  isplitl [Hv]; · iexact Hv
  isplitl [Hob]; · iexact Hob
  isplitl [Hos]; · iexact Hos
  isplitl [Hi]; · iexact Hi
  isplitl [Hw]; · iexact Hw
  isplitl [Hd] <;> iassumption

end Cert.Proof.Roll

end
-- ==== Proof.Host.lean ====
/-
  The remainder of the shift by the number of rows, as the operations before the call compute it.
-/
module

public import proofs.«01_k».proof.Proof.Setup

@[expose] public section

noncomputable section

namespace Cert.Proof.Roll

open Cert.KernelIdeal Cert.KernelIdeal.Gen
open Idealize.ShloMosaic Idealize.ShloMosaic.StableHlo
open Idealize.SL.Sem

/-! ## The remainder as a number -/

/-- A word's remainder by the number of rows. -/
def modW (s : BitVec 32) : BitVec 32 := s % 262144#32
theorem modW_toNat (s : BitVec 32) : (modW s).toNat = s.toNat % 262144 := by
  unfold modW; rw [BitVec.toNat_umod]; rfl
theorem modW_lt (s : BitVec 32) : (modW s).toNat < 262144 := by
  rw [modW_toNat]; exact Nat.mod_lt _ (by decide)

/-- The remainder of `a` by `b` with `b`'s sign, operation by operation. -/
def remV (a b : IVec S_ 32) : IVec S_ 32 :=
  select (andi (cmpi .ne (cmpi .slt (Host.remsi a (select (cmpi .eq b (constantI S_ 32 0#32)) (constantI S_ 32 1#32) b)) (constantI S_ 32 0#32))
        (cmpi .slt (select (cmpi .eq b (constantI S_ 32 0#32)) (constantI S_ 32 1#32) b) (constantI S_ 32 0#32)))
      (cmpi .ne (Host.remsi a (select (cmpi .eq b (constantI S_ 32 0#32)) (constantI S_ 32 1#32) b)) (constantI S_ 32 0#32)))
    (addi (Host.remsi a (select (cmpi .eq b (constantI S_ 32 0#32)) (constantI S_ 32 1#32) b)) (select (cmpi .eq b (constantI S_ 32 0#32)) (constantI S_ 32 1#32) b))
    (Host.remsi a (select (cmpi .eq b (constantI S_ 32 0#32)) (constantI S_ 32 1#32) b))

/-- The signed remainder by the number of rows, a negative one taken around, is the remainder. -/
theorem srem_around (s : BitVec 32) :
    (if BitVec.slt (s.srem 262144#32) 0#32 then s.srem 262144#32 + 262144#32 else s.srem 262144#32) = modW s := by
  have hr : (s.srem 262144#32).toInt = s.toInt.tmod 262144 := by rw [BitVec.toInt_srem]; rfl
  have hs := BitVec.toInt_eq_toNat_cond s
  have hr' := BitVec.toInt_eq_toNat_cond (s.srem 262144#32)
  have hlt := s.isLt
  have hlt' := (s.srem 262144#32).isLt
  rw [Int.tmod_eq_emod] at hr
  apply BitVec.eq_of_toNat_eq
  rw [modW_toNat]
  have hslt : BitVec.slt (s.srem 262144#32) 0#32 = decide ((s.srem 262144#32).toInt < 0) := BitVec.slt_eq_decide
  rw [hslt]
  by_cases h : (s.srem 262144#32).toInt < 0
  · rw [if_pos (decide_eq_true h), BitVec.toNat_add]
    simp only [BitVec.toNat_ofNat]
    split at hr <;> split at hs <;> split at hr' <;> omega
  · rw [if_neg (by rw [decide_eq_true_eq]; exact h)]
    split at hr <;> split at hs <;> split at hr' <;> omega

theorem remV_apply (a : IVec S_ 32) (x : S_.Idx) : remV a (constantI S_ 32 262144#32) x = modW (a x) := by
  have hy : (select (cmpi .eq (constantI S_ 32 262144#32) (constantI S_ 32 0#32)) (constantI S_ 32 1#32) (constantI S_ 32 262144#32) : IVec S_ 32)
      = constantI S_ 32 262144#32 := by
    funext i; rfl
  unfold remV
  rw [hy]
  have hr : Host.remsi a (constantI S_ 32 262144#32) x = (a x).srem 262144#32 := by
    show IntOp.remsi .host (a x) 262144#32 = _
    unfold IntOp.remsi
    rw [if_neg]
    unfold IntOp.SDivCorner
    rintro (h | ⟨-, h⟩)
    · exact absurd h (by decide)
    · exact absurd h (by decide)
  show Scalar.select (IntOp.andi (IntOp.cmpi .ne (IntOp.cmpi .slt (Host.remsi a (constantI S_ 32 262144#32) x) 0#32) (IntOp.cmpi .slt (262144#32 : BitVec 32) 0#32))
      (IntOp.cmpi .ne (Host.remsi a (constantI S_ 32 262144#32) x) 0#32))
    (IntOp.addi (Host.remsi a (constantI S_ 32 262144#32) x) 262144#32) (Host.remsi a (constantI S_ 32 262144#32) x) = _
  rw [hr, ← srem_around (a x)]
  generalize (a x).srem 262144#32 = r
  by_cases h : BitVec.slt r 0#32
  · have h0 : r ≠ 0#32 := by rintro rfl; exact absurd h (by decide)
    rw [if_pos h]
    have hc : IntOp.andi (IntOp.cmpi .ne (IntOp.cmpi .slt r 0#32) (IntOp.cmpi .slt (262144#32 : BitVec 32) 0#32)) (IntOp.cmpi .ne r 0#32) = BitVec.ofBool true := by
      simp only [IntOp.cmpi, h]
      rw [show (r != 0#32) = true by simpa using h0]; decide
    rw [hc, select_ofBool]; rfl
  · rw [if_neg h]
    have hc : IntOp.andi (IntOp.cmpi .ne (IntOp.cmpi .slt r 0#32) (IntOp.cmpi .slt (262144#32 : BitVec 32) 0#32)) (IntOp.cmpi .ne r 0#32) = BitVec.ofBool false := by
      simp only [IntOp.cmpi, Bool.not_eq_true] at h ⊢
      rw [h]; cases (r != 0#32) <;> decide
    rw [hc, select_ofBool]; rfl

/-! ## The operations before the call -/

variable {F : FTy → Type} [FloatOps F]

/-- The operations of @main before the call, in order. -/
def hostOps : List (HloOp τ sig (Elt F)) :=
  [StableHlo.nullary main_c (constantI S_ 32 262144#32),
   TRef.nullary main_call0.c (constantI S_ 32 0#32),
   TRef.binary (.of main_c) main_call0.c main_call0.v0 (cmpi .eq),
   TRef.nullary main_call0.c_0 (constantI S_ 32 1#32),
   TRef.ternary main_call0.v0 main_call0.c_0 (.of main_c) main_call0.call0.v0 select,
   TRef.binary (.of main_arg2) main_call0.call0.v0 main_call0.v2 Host.remsi,
   TRef.nullary main_call0.c_1 (constantI S_ 32 0#32),
   TRef.binary main_call0.v2 main_call0.c_1 main_call0.v3 (cmpi .ne),
   TRef.nullary main_call0.c_2 (constantI S_ 32 0#32),
   TRef.binary main_call0.v2 main_call0.c_2 main_call0.v4 (cmpi .slt),
   TRef.nullary main_call0.c_3 (constantI S_ 32 0#32),
   TRef.binary main_call0.call0.v0 main_call0.c_3 main_call0.v5 (cmpi .slt),
   TRef.binary main_call0.v4 main_call0.v5 main_call0.v6 (cmpi .ne),
   TRef.binary main_call0.v6 main_call0.v3 main_call0.v7 andi,
   TRef.binary main_call0.v2 main_call0.call0.v0 main_call0.v8 addi,
   TRef.ternary main_call0.v7 main_call0.v8 main_call0.v2 main_call0.v9 select,
   StableHlo.unary main_v0 main_v1 (broadcastInDim S16 ![] bcast_S_S16 : (⟨S_, .i32⟩ : BufTy).Contents (Elt F) → (⟨S16, .i32⟩ : BufTy).Contents (Elt F))]

theorem main_eq (d : Dev nD) : (main (F := F) d) = seq hostOps >>= fun _ => ((sc (F := F)).run d 0 >>= fun _ => pure ⟨⟩) := rfl

theorem hostOps_sub : ∀ op ∈ hostOps (F := F), op.bufs ⊆ tcRefs τ sig := by
  refine List.forall_iff_forall_mem.mp ?_
  unfold hostOps
  simp only [List.forall_cons, List.Forall, nullary_bufs_sub, unary_bufs_sub, binary_bufs_sub, ternary_bufs_sub, and_self]

theorem hostOps_fresh : ∀ op ∈ hostOps (F := F), op.fresh = ∅ :=
  List.forall_iff_forall_mem.mp (forall_fresh_of_map rfl)

/-- What the operations write. -/
def hostWrites : List (Ref sig .tc) :=
  [main_c, main_call0_c, main_call0_v0, main_call0_c_0, main_call0_v1, main_call0_v2, main_call0_c_1, main_call0_v3, main_call0_c_2,
   main_call0_v4, main_call0_c_3, main_call0_v5, main_call0_v6, main_call0_v7, main_call0_v8, main_v0, main_v1]

theorem after_host_of (V : Valuation τ sig (Elt F)) (r : Ref sig .tc) (hr : r ∉ hostWrites) :
    after hostOps V (Proc.devRef .tc r) = V (Proc.devRef .tc r) :=
  after_of_writes_sub (W := hostWrites) hostOps V (forall_writes_sub_of_map rfl) hr

/-- The sixteen words handed to the call. -/
theorem after_host_shift (V : Valuation τ sig (Elt F)) :
    after hostOps V (Proc.devRef .tc main_v1)
      = (broadcastInDim S16 ![] bcast_S_S16 (remV (V (Proc.devRef .tc main_arg2)) (constantI S_ 32 262144#32)) : IVec S16 32) := by
  unfold hostOps
  after_results
  rfl

end Cert.Proof.Roll

end
-- ==== Proof.Parts.lean ====
/-
  The operands dealt to the thirty-two tiles and taken back, and the words made ready as numbers.
-/
module

public import proofs.«01_k».proof.Proof.Body
public import proofs.«01_k».proof.Proof.Host

@[expose] public section

noncomputable section

namespace Cert.Proof.Roll

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ShareLeaves

/-! ## The word made ready, as a number -/

theorem adjW_toNat (s v : BitVec 32) (hs : s.toNat < 262144) (hv : v.toNat < 262144) :
    (adjW s v).toNat = (v.toNat + 262144 - s.toNat) % 262144 := by
  unfold adjW
  have hd : (v - s).toNat = (2 ^ 32 - s.toNat + v.toNat) % 2 ^ 32 := BitVec.toNat_sub v s
  have hi := BitVec.toInt_eq_toNat_cond (v - s)
  have hslt : BitVec.slt (v - s) 0#32 = decide ((v - s).toInt < 0) := BitVec.slt_eq_decide
  rw [hslt]
  by_cases h : (v - s).toInt < 0
  · rw [if_pos (decide_eq_true h), BitVec.toNat_add]
    simp only [BitVec.toNat_ofNat]
    split at hi <;> omega
  · rw [if_neg (by rw [decide_eq_true_eq]; exact h)]
    split at hi <;> omega

theorem adjW_lt (s v : BitVec 32) (hs : s.toNat < 262144) (hv : v.toNat < 262144) : (adjW s v).toNat < 262144 := by
  rw [adjW_toNat s v hs hv]; exact Nat.mod_lt _ (by decide)

theorem wordOf_lt (I : S262144.Idx → BitVec 32) (hI : ∀ j, (I j).toNat < 262144) (r : ℕ) : (wordOf I r).toNat < 262144 := by
  unfold wordOf
  split
  · exact hI _
  · decide

/-! ## The tiles -/

/-- The tile of SparseCore `c` and subcore `i`. -/
def tileL (c : Fin (grid0.bound 0)) (i : Fin (grid0.bound 1)) : grid0.Coords
  | 0 => c | 1 => i | ⟨_ + 2, h⟩ => absurd h (Nat.not_lt.2 (Nat.le_add_left _ _))

/-- The tiles' numbers. -/
abbrev CI : Type := Fin 2 × Fin 16
theorem base_tile (t : CI) : base (tileL t.1 t.2) = 16384 * t.2.val + 8192 * t.1.val := rfl

theorem tiles_apart {t u : CI} (h : t ≠ u) :
    base (tileL t.1 t.2) + 8192 ≤ base (tileL u.1 u.2) ∨ base (tileL u.1 u.2) + 8192 ≤ base (tileL t.1 t.2) := by
  obtain ⟨⟨c, hc⟩, ⟨i, hi⟩⟩ := t
  obtain ⟨⟨c', hc'⟩, ⟨i', hi'⟩⟩ := u
  rw [base_tile, base_tile]
  by_contra hh
  refine h (Prod.ext (Fin.ext ?_) (Fin.ext ?_)) <;> simp only at hh ⊢ <;> omega

/-- The tile of a row. -/
theorem tiles_cover (n : ℕ) (h : n < 262144) : ∃ t : CI, base (tileL t.1 t.2) ≤ n ∧ n < base (tileL t.1 t.2) + 8192 :=
  ⟨(⟨n / 8192 % 2, Nat.mod_lt _ (by decide)⟩, ⟨n / 16384, by omega⟩), by rw [base_tile]; show _ ≤ _ ∧ _ < _; simp only; omega⟩

theorem Iset_tiles : (Finset.univ : Finset CI).biUnion (fun t => Iset (base (tileL t.1 t.2)) (base (tileL t.1 t.2) + 8192)) = Finset.univ := by
  ext j
  simp only [Finset.mem_biUnion, Finset.mem_univ, true_and, iff_true, mem_Iset]
  exact tiles_cover (j 0).val (j 0).isLt
theorem Oset_tiles : (Finset.univ : Finset CI).biUnion (fun t => Oset (base (tileL t.1 t.2)) (base (tileL t.1 t.2) + 8192)) = Finset.univ := by
  ext j
  simp only [Finset.mem_biUnion, Finset.mem_univ, true_and, iff_true, mem_Oset]
  exact tiles_cover (j 0).val (j 0).isLt

variable {F : FTy → Type} [FloatOps F]

local notation "𝕄" => MT nD τ sig (HIx 1) (Elt F) ℕ UU ℕ

/-- A tile's share of an array all tiles read. -/
def tileQ (c : Fin 2) (i : Fin 16) : PosShare TreeShare := leaf 4 (leaf 1 fullShare c) i

variable (d : Dev nD)

theorem bigSep_tiles (Φ : CI → sProp 𝕄) :
    bigSep Finset.univ Φ = bigSep Finset.univ fun c : Fin 2 => bigSep Finset.univ fun i : Fin 16 => Φ (c, i) := by
  rw [← Finset.univ_product_univ, SparseCore.bigSep_product]

theorem iPts_tiles (f : Buf (Elt F) (iLoc d)) :
    (iLoc d ↦{fullShare} f : sProp 𝕄)
      = bigSep Finset.univ fun c : Fin 2 => bigSep Finset.univ fun i : Fin 16 => iLoc d ↦[Iset (base (tileL c i)) (base (tileL c i) + 8192)]{fullShare} f := by
  refine Eq.trans ?_ (bigSep_tiles fun t : CI => iLoc d ↦[Iset (base (tileL t.1 t.2)) (base (tileL t.1 t.2) + 8192)]{fullShare} f)
  rw [← pointsTo_biUnion (ℓ := iLoc d) Finset.univ (fun t : CI => Iset (base (tileL t.1 t.2)) (base (tileL t.1 t.2) + 8192))
    fun t _ u _ h => Finset.disjoint_left.mpr fun j h1 h2 => by
      have h1' := mem_Iset.mp h1; have h2' := mem_Iset.mp h2; have := tiles_apart h; omega]
  exact congrArg (fun J : Finset S262144.Idx => (iLoc d ↦[J]{fullShare} f : sProp 𝕄)) Iset_tiles.symm

theorem oPts_tiles (f : Buf (Elt F) (oLoc d)) :
    (oLoc d ↦{fullShare} f : sProp 𝕄)
      = bigSep Finset.univ fun c : Fin 2 => bigSep Finset.univ fun i : Fin 16 => oLoc d ↦[Oset (base (tileL c i)) (base (tileL c i) + 8192)]{fullShare} f := by
  refine Eq.trans ?_ (bigSep_tiles fun t : CI => oLoc d ↦[Oset (base (tileL t.1 t.2)) (base (tileL t.1 t.2) + 8192)]{fullShare} f)
  rw [← pointsTo_biUnion (ℓ := oLoc d) Finset.univ (fun t : CI => Oset (base (tileL t.1 t.2)) (base (tileL t.1 t.2) + 8192))
    fun t _ u _ h => Finset.disjoint_left.mpr fun j h1 h2 => by
      have h1' := mem_Oset.mp h1; have h2' := mem_Oset.mp h2; have := tiles_apart h; omega]
  exact congrArg (fun J : Finset S262144x128.Idx => (oLoc d ↦[J]{fullShare} f : sProp 𝕄)) Oset_tiles.symm

/-- An array all tiles read, as the tiles' shares of it. -/
theorem shares_tiles {ℓ : Loc nD τ sig} (f : Buf (Elt F) ℓ) :
    (ℓ ↦{fullShare} f : sProp 𝕄) = bigSep Finset.univ fun c : Fin 2 => bigSep Finset.univ fun i : Fin 16 => ℓ ↦{tileQ c i} f :=
  (pointsTo_leaves (ℓ := ℓ) Finset.univ f 1 fullShare).trans
    (bigSep_congr fun c _ => pointsTo_leaves (ℓ := ℓ) Finset.univ f 4 (leaf 1 fullShare c))

/-- The four arrays whole are the tiles' loads. -/
theorem loads_eq (X : S262144x128.Idx → Elt F .f32) (I : S262144.Idx → BitVec 32) (H : S16.Idx → BitVec 32) (R : S262144x128.Idx → Elt F .f32) :
    (iprop((iLoc d ↦{fullShare} I) ∗ (hLoc d ↦{fullShare} H) ∗ (xLoc d ↦{fullShare} X) ∗ oLoc d ↦{fullShare} R) : sProp 𝕄)
      = bigSep Finset.univ fun c : Fin 2 => bigSep Finset.univ fun i : Fin 16 => load d (tileL c i) X I H (tileQ c i) R := by
  unfold load
  rw [iPts_tiles, oPts_tiles, shares_tiles (ℓ := xLoc d), shares_tiles (ℓ := hLoc d)]
  simp only [bigSep_sep']

end Cert.Proof.Roll

end
-- ==== Proof.Launch.lean ====
/-
  The run of the whole program: what the TensorCore hands the SparseCores and they the tiles, the operations before the
  call, the call, and what the memory holds at the end.
-/
module

public import proofs.«01_k».proof.Proof.Parts

@[expose] public section

noncomputable section

namespace Cert.Proof.Roll

open Cert.KernelIdeal Cert.KernelIdeal.Gen
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values of the run -/

/-- The arguments, and the result's array, as the launch finds them. -/
def xv (d : Dev nD) : S262144x128.Idx → Elt F .f32 := m (xLoc d)
def iv (d : Dev nD) : S262144.Idx → BitVec 32 := m (iLoc d)
def sv (d : Dev nD) : S_.Idx → BitVec 32 := m (sLoc d)
def zv (d : Dev nD) : S262144x128.Idx → Elt F .f32 := m (oLoc d)
/-- The shift by less than the number of rows. -/
def shiftW (d : Dev nD) : BitVec 32 := modW (sv m d fun a => a.elim0)
/-- The sixteen words handed to the call. -/
def hv (d : Dev nD) : S16.Idx → BitVec 32 := fun _ => shiftW m d
/-- The result. -/
def resultV (d : Dev nD) : S262144x128.Idx → Elt F .f32 := outOf (xv m d) (shiftW m d) (wordOf (iv m d))

/-- What the run asks of the launch memory: every row number names a row. -/
def PreOK : Prop := ∀ d j, (iv m d j).toNat < 262144

/-! ## What the threads hand each other -/

/-- A tile's load, with its part of the result at `R`. -/
def deal (d : Dev nD) (R : S262144x128.Idx → Elt F .f32) (c : Fin 2) (i : Fin 16) : sProp 𝕄 :=
  load d (tileL c i) (xv m d) (iv m d) (hv m d) (tileQ c i) R
/-- A SparseCore's load: its tiles'. -/
def deals (d : Dev nD) (R : S262144x128.Idx → Elt F .f32) (c : Fin 2) : sProp 𝕄 := bigSep Finset.univ (deal m d R c)

instance deal_storable (d : Dev nD) (R : S262144x128.Idx → Elt F .f32) (c : Fin 2) (i : Fin 16) :
    BI.Storable (upEmb : UEmb _ 𝕄) (deal m d R c i) := by
  unfold deal load; infer_instance
instance deals_storable (d : Dev nD) (R : S262144x128.Idx → Elt F .f32) (c : Fin 2) :
    BI.Storable (upEmb : UEmb _ 𝕄) (deals m d R c) := by
  unfold deals; infer_instance

/-- What the call hands over at each stage. -/
def P : (K (F := F)).Pay (nD := nD) (Val := Elt F) (Name := ℕ) (U := UU) where
  st := fun q d c => match q with | 0 => deals m d (zv m d) (Fin.cast nCore_zero c)
  dn := fun q d c => match q with | 0 => deals m d (resultV m d) (Fin.cast nCore_zero c)
  go := fun q d c i => match q with | 0 => deal m d (zv m d) (Fin.cast nCore_zero c) (Fin.cast nSub_zero i)
  td := fun q d c i => match q with | 0 => deal m d (resultV m d) (Fin.cast nCore_zero c) (Fin.cast nSub_zero i)
  x := fun _ _ => iprop(emp)

instance P_storable : (P (F := F) m).IsStorable where
  st q d c := match q with | 0 => deals_storable m d (zv m d) (Fin.cast nCore_zero c)
  dn q d c := match q with | 0 => deals_storable m d (resultV m d) (Fin.cast nCore_zero c)
  go q d c i := match q with | 0 => deal_storable m d (zv m d) (Fin.cast nCore_zero c) (Fin.cast nSub_zero i)
  td q d c i := match q with | 0 => deal_storable m d (resultV m d) (Fin.cast nCore_zero c) (Fin.cast nSub_zero i)

/-! ## The tile's obligation -/

theorem defs₀_vector (c : Fin τ.nSC) (s : Fin τ.nSub) :
    defs₀ (F := F) (.scVector c s) 0 () = SparseCore.onTile hcore0 hsub0 (fun c s => tile (F := F) (tileL c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every word a tile makes ready names a row. -/
theorem ready_lt (hpre : PreOK m) (d : Dev nD) (r : ℕ) : (adjW (shiftW m d) (wordOf (iv m d) r)).toNat < 262144 :=
  adjW_lt _ _ (modW_lt _) (wordOf_lt _ (hpre d) r)

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileL ⟨_, hci.1⟩ ⟨_, hci.2⟩) (xv m d) (shiftW m d) (zv m d) (iv m d) (hv m d) (tileQ ⟨_, hci.1⟩ ⟨_, hci.2⟩) hF
    (fun r _ => ready_lt m hpre d r) (fun _ => rfl) O W hO).trans (wp_mono frame _ _ fun _ => obl_post)

theorem deals_tasks (d : Dev nD) (R : S262144x128.Idx → Elt F .f32) (c : Fin 2) :
    (bigSep Finset.univ fun i : Fin ((K (F := F)).nSub 0) => deal m d R c (Fin.cast nSub_zero i)) = deals m d R c :=
  bigSep_congr fun _ _ => rfl

theorem vecSplit : (K (F := F)).VecSplit' (P m) 0 := by
  intro d c
  show deals m d (zv m d) (Fin.cast nCore_zero c) ⊢ |={Set.univ}=> iprop(
      (bigSep Finset.univ fun i : Fin ((K (F := F)).nSub 0) => deal m d (zv m d) (Fin.cast nCore_zero c) (Fin.cast nSub_zero i))
      ∗ ((bigSep Finset.univ fun i : Fin ((K (F := F)).nSub 0) => deal m d (resultV m d) (Fin.cast nCore_zero c) (Fin.cast nSub_zero i))
          -∗ deals m d (resultV m d) (Fin.cast nCore_zero c)))
  rw [deals_tasks, deals_tasks]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The launch memory as the TensorCore's operations see it. -/
def V0 (d : Dev nD) : Valuation τ sig (Elt F) := fun b => m (d, b)
/-- The same before the call. -/
def V1 (d : Dev nD) : Valuation τ sig (Elt F) := after hostOps (V0 m d)

theorem unscoped_held (d : Dev nD) : (unscopedBufs d (fun b => m ((SparseCore.T d).loc b)) : sProp 𝕄) = held (T d) (tcRefs τ sig) (V0 m d) := by
  unfold unscopedBufs held tcRefs
  rw [bigSep_map, show (Finset.univ.filter fun b : Ref sig .tc => ¬ b.isScoped) = Finset.univ by decide]
  rfl

/-- The five arrays the call and the claims speak of. -/
def fiveR : Fin 5 → Ref sig .tc
  | 0 => main_arg0 | 1 => main_arg1 | 2 => main_arg2 | 3 => main_v1 | 4 => main_v2
theorem fiveR_injective : Function.Injective fiveR := by decide

/-- What else the TensorCore holds. -/
def otherArrays (d : Dev nD) (W : Valuation τ sig (Elt F)) : sProp 𝕄 :=
  bigSep (tcRefs τ sig \ Finset.univ.image fun i => (Proc.devRef .tc (fiveR i) : DevRef τ sig)) fun b => ((SparseCore.T d : Thread nD τ).1, b) ↦{fullShare} W b

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem held_five (d : Dev nD) (W : Valuation τ sig (Elt F)) :
    (held (T d) (tcRefs τ sig) W : sProp 𝕄)
      = iprop(((xLoc d ↦{fullShare} W (Proc.devRef .tc main_arg0)) ∗ (iLoc d ↦{fullShare} W (Proc.devRef .tc main_arg1))
          ∗ (sLoc d ↦{fullShare} W (Proc.devRef .tc main_arg2)) ∗ (hLoc d ↦{fullShare} W (Proc.devRef .tc main_v1))
          ∗ oLoc d ↦{fullShare} W (Proc.devRef .tc main_v2)) ∗ otherArrays d W) := by
  unfold held otherArrays
  refine (bigSep_family (F := F) (fun i => (Proc.devRef .tc (fiveR i) : DevRef τ sig)) ((Proc.devRef_injective _).comp fiveR_injective)
    (tcRefs τ sig) (fun i => devRef_mem_tcRefs _) _).trans ?_
  rw [bigSep_five]
  rfl

theorem V1_shift (d : Dev nD) : V1 m d (Proc.devRef .tc main_v1) = hv m d := by
  unfold V1
  rw [after_host_shift]
  funext i
  refine (remV_apply _ _).trans ?_
  exact congrArg (fun j => modW (sv m d j)) (funext fun a => a.elim0)

/-- What the TensorCore holds before the call. -/
theorem held_V1 (d : Dev nD) :
    (held (d.tc : Thread nD τ) (tcRefs τ sig) (after hostOps (V0 m d)) : sProp 𝕄)
      = iprop(((xLoc d ↦{fullShare} xv m d) ∗ (iLoc d ↦{fullShare} iv m d) ∗ (sLoc d ↦{fullShare} sv m d) ∗ (hLoc d ↦{fullShare} hv m d)
          ∗ oLoc d ↦{fullShare} zv m d) ∗ otherArrays d (V1 m d)) := by
  show held (T d) (tcRefs τ sig) (V1 m d) = _
  rw [held_five, V1_shift]
  unfold V1
  rw [after_host_of _ main_arg0 (by decide), after_host_of _ main_arg1 (by decide), after_host_of _ main_arg2 (by decide),
    after_host_of _ main_v2 (by decide)]
  rfl

/-- The four arrays of the call whole are the SparseCores' loads. -/
theorem deals_eq (d : Dev nD) (R : S262144x128.Idx → Elt F .f32) :
    (iprop((iLoc d ↦{fullShare} iv m d) ∗ (hLoc d ↦{fullShare} hv m d) ∗ (xLoc d ↦{fullShare} xv m d) ∗ oLoc d ↦{fullShare} R) : sProp 𝕄)
      = bigSep Finset.univ fun c : Fin ((K (F := F)).nCore 0) => deals m d R (Fin.cast nCore_zero c) :=
  loads_eq d (xv m d) (iv m d) (hv m d) R

theorem dn0_eq (d : Dev nD) :
    (bigSep Finset.univ fun c : Fin ((K (F := F)).nCore 0) => (P m).dn 0 d c)
      = iprop((iLoc d ↦{fullShare} iv m d) ∗ (hLoc d ↦{fullShare} hv m d) ∗ (xLoc d ↦{fullShare} xv m d) ∗ oLoc d ↦{fullShare} resultV m d) :=
  (deals_eq m d (resultV m d)).symm

/-- What @main leaves: the arguments as they were, the result. -/
abbrev FIN (d : Dev nD) : sProp 𝕄 :=
  iprop((xLoc d ↦{fullShare} xv m d) ∗ (iLoc d ↦{fullShare} iv m d) ∗ (sLoc d ↦{fullShare} sv m d) ∗ oLoc d ↦{fullShare} resultV m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ hostOps hostOps_sub hostOps_fresh (V0 m d)) $$ [Hb Hheld]
  · isplitl [Hb] <;> iassumption
  iintro ⟨Hb, Hheld⟩
  ihave Hh := (Entails.of_eq (held_V1 m d)) $$ Hheld
  icases Hh with ⟨⟨Hx, Hi, Hs, Hh, Ho⟩, -⟩
  rw [wp_bind]
  iapply ((K (F := F)).wp_run (D (F := F)) 𝒱 (EH := EH) (P := P m) κ d 0) $$ [Hst Hx Hi Hs Hh Ho Hb Hts]
  isplitr; · iexact Hctx
  isplitl [Hst]; · iexact Hst
  isplitl [Hx Hi Hh Ho]
  · iapply (Entails.of_eq (deals_eq m d (zv m d)))
    isplitl [Hi]; · iexact Hi
    isplitl [Hh]; · iexact Hh
    isplitl [Hx] <;> iassumption
  iintro ⟨Hst, Hdn⟩
  ihave Hdn' := (Entails.of_eq (dn0_eq m d)) $$ Hdn
  icases Hdn' with ⟨Hi, -, Hx, Ho⟩
  rw [wp_pure]
  imodintro
  isplitl [Hst]; · iexact Hst
  isplitr [Hb Hts]
  · isplitl [Hx]; · iexact Hx
    isplitl [Hi]; · iexact Hi
    isplitl [Hs] <;> iassumption
  isplitl [Hb] <;> iassumption

/-- What the claims read of a device's final state. -/
def fq (d : Dev nD) (s' : Phys nD τ sig (Elt F)) : Prop :=
  s'.mem.mem (oLoc d) = resultV m d ∧ s'.mem.mem (xLoc d) = m (xLoc d) ∧ s'.mem.mem (iLoc d) = m (iLoc d) ∧ s'.mem.mem (sLoc d) = m (sLoc d)

/-- An array held whole is what the final state holds. -/
theorem read_whole {ℓ : Loc nD τ sig} (s' : Phys nD τ sig (Elt F)) (f : Buf (Elt F) ℓ) :
    iprop(SI s' ∗ ℓ ↦{fullShare} f) ⊢ iprop(⌜s'.mem.mem ℓ = f⌝ ∗ SI s' ∗ ℓ ↦{fullShare} f : sProp 𝕄) :=
  persistent_entails_right ((SI_pointsTo_agree (st := s') (ℓ := ℓ) (I := Finset.univ) (q := fullShare) (f := f)).trans
    (Laws.pure_mono fun h => funext fun i => h i (Finset.mem_univ i)))

set_option maxRecDepth 16384 in
theorem hfin (d : Dev nD) (s' : Phys nD τ sig (Elt F)) : iprop(FIN m d ∗ SI s') ⊢ (⌜fq m d s'⌝ : sProp 𝕄) := by
  iintro ⟨⟨Hx, Hi, Hs, Ho⟩, HSI⟩
  ihave H := (read_whole (ℓ := xLoc d) s' (xv m d)) $$ [HSI Hx]
  · isplitl [HSI] <;> iassumption
  icases H with ⟨%h1, HSI, -⟩
  ihave H := (read_whole (ℓ := iLoc d) s' (iv m d)) $$ [HSI Hi]
  · isplitl [HSI] <;> iassumption
  icases H with ⟨%h2, HSI, -⟩
  ihave H := (read_whole (ℓ := sLoc d) s' (sv m d)) $$ [HSI Hs]
  · isplitl [HSI] <;> iassumption
  icases H with ⟨%h3, HSI, -⟩
  ihave H := (read_whole (ℓ := oLoc d) s' (resultV m d)) $$ [HSI Ho]
  · isplitl [HSI] <;> iassumption
  icases H with ⟨%h4, -, -⟩
  ipureintro; exact ⟨h4, h1, h2, h3⟩

/-! ## The program's run -/

/-- The result and the arguments at the end, every semaphore at rest. -/
def QC : PUnit × MemSt nD τ sig (Elt F) → Prop := fun r =>
  (∀ c : Dev nD, r.2.mem (oLoc c) = resultV m c ∧ r.2.mem (xLoc c) = m (xLoc c) ∧ r.2.mem (iLoc c) = m (iLoc c) ∧ r.2.mem (sLoc c) = m (sLoc c))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Roll

end
-- ==== Proof.RefRun.lean ====
/-
  The reference's run: its operations in order, in four stretches (the shift's remainder, the start of the rolled rows,
  the rolled rows, the rows taken), and what each stretch leaves in the buffer the next one reads.
-/
module

public import proofs.«01_k».proof.Proof.Host
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.StableHlo
open Idealize.SL.Sem

variable {F : FTy → Type} [FloatOps F]

/-! ## The operations -/

/-- The shift's remainder by the number of rows. -/
def opsRem : List (HloOp τ sig (Elt F)) :=
  [TRef.unary (.of main_arg2 : TRef sig ⟨S_, .i32⟩) main_call0.v0 (broadcastInDim S1 ![] bcast_S_S1),
   TRef.unary main_call0.v0 main_call0.v1 (fun x => extractStridedSlice S1 ![0] x slices_S1_S1_0),
   TRef.reshape main_call0.v1 main_call0.v2 (rfl : (.i32 : EltTy) = .i32) shapeCasts_S1_S_,
   TRef.nullary main_call0.c (constantI S_ 32 262144#32),
   TRef.nullary main_call0.c_0 (constantI S_ 32 1#32),
   TRef.binary main_call0.c main_call0.c_0 main_call0.v3 maxsi,
   TRef.nullary main_call0_call0.c (constantI S_ 32 0#32),
   TRef.binary main_call0.v3 main_call0_call0.c main_call0_call0.v0 (cmpi .eq),
   TRef.nullary main_call0_call0.c_0 (constantI S_ 32 1#32),
   TRef.ternary main_call0_call0.v0 main_call0_call0.c_0 main_call0.v3 main_call0_call0.call0.v0 select,
   TRef.binary main_call0.v2 main_call0_call0.call0.v0 main_call0_call0.v2 Host.remsi,
   TRef.nullary main_call0_call0.c_1 (constantI S_ 32 0#32),
   TRef.binary main_call0_call0.v2 main_call0_call0.c_1 main_call0_call0.v3 (cmpi .ne),
   TRef.nullary main_call0_call0.c_2 (constantI S_ 32 0#32),
   TRef.binary main_call0_call0.v2 main_call0_call0.c_2 main_call0_call0.v4 (cmpi .slt),
   TRef.nullary main_call0_call0.c_3 (constantI S_ 32 0#32),
   TRef.binary main_call0_call0.call0.v0 main_call0_call0.c_3 main_call0_call0.v5 (cmpi .slt),
   TRef.binary main_call0_call0.v4 main_call0_call0.v5 main_call0_call0.v6 (cmpi .ne),
   TRef.binary main_call0_call0.v6 main_call0_call0.v3 main_call0_call0.v7 andi,
   TRef.binary main_call0_call0.v2 main_call0_call0.call0.v0 main_call0_call0.v8 addi,
   TRef.ternary main_call0_call0.v7 main_call0_call0.v8 main_call0_call0.v2 main_call0_call0.v9 select]

/-- The rows twice over, and where in them the rolled rows start. -/
def opsStart : List (HloOp τ sig (Elt F)) :=
  [TRef.binary (.of main_arg0) (.of main_arg0) main_call0.v5 (fun a b => concatenate S524288x128 0 [⟨S262144x128, a⟩, ⟨S262144x128, b⟩] concatenates_S262144x128_S262144x128_S524288x128_d0),
   TRef.nullary main_call0.c_1 (constantI S_ 32 262144#32),
   TRef.binary main_call0.c_1 main_call0_call0.v9 main_call0.v6 subi,
   TRef.nullary main_call0.c_2 (constantI S_ 32 0#32),
   TRef.binary main_call0.v6 main_call0.c_2 main_call0.v7 (cmpi .slt),
   TRef.nullary main_call0.c_3 (constantI S_ 32 524288#32),
   TRef.binary main_call0.v6 main_call0.c_3 main_call0.v8 addi,
   TRef.ternary main_call0.v7 main_call0.v8 main_call0.v6 main_call0.v9 select,
   TRef.nullary main_call0.c_4 (constantI S_ 32 0#32)]

/-- The rolled rows. -/
def opsSlice : List (HloOp τ sig (Elt F)) :=
  [TRef.unaryIndexed main_call0.v5 ![main_call0.v9, main_call0.c_4] main_call0.v10 (fun x i => Host.dynamicSlice S262144x128 x (fun k => (i k (Shape.Idx.first h_S_)).toInt) sliceFits_S524288x128_S262144x128)]

/-- The rows taken. -/
def opsTake : List (HloOp τ sig (Elt F)) :=
  [StableHlo.nullary main_c (constantI S_ 32 0#32),
   StableHlo.unary main_c main_v1 (broadcastInDim S262144 ![] bcast_S_S262144 : (⟨S_, .i32⟩ : BufTy).Contents (Elt F) → (⟨S262144, .i32⟩ : BufTy).Contents (Elt F)),
   StableHlo.binary main_arg1 main_v1 main_v2 (cmpi .slt : (⟨S262144, .i32⟩ : BufTy).Contents (Elt F) → (⟨S262144, .i32⟩ : BufTy).Contents (Elt F) → (⟨S262144, .i1⟩ : BufTy).Contents (Elt F)),
   StableHlo.nullary main_c_0 (constantI S_ 32 262144#32),
   StableHlo.unary main_c_0 main_v3 (broadcastInDim S262144 ![] bcast_S_S262144 : (⟨S_, .i32⟩ : BufTy).Contents (Elt F) → (⟨S262144, .i32⟩ : BufTy).Contents (Elt F)),
   StableHlo.binary main_arg1 main_v3 main_v4 (addi : (⟨S262144, .i32⟩ : BufTy).Contents (Elt F) → (⟨S262144, .i32⟩ : BufTy).Contents (Elt F) → (⟨S262144, .i32⟩ : BufTy).Contents (Elt F)),
   StableHlo.ternary main_v2 main_v4 main_arg1 main_v5 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
   StableHlo.unary main_v5 main_v6 (broadcastInDim S262144x1 ![0] bcast_S262144_S262144x1_0 : (⟨S262144, .i32⟩ : BufTy).Contents (Elt F) → (⟨S262144x1, .i32⟩ : BufTy).Contents (Elt F)),
   StableHlo.binary main_v0 main_v6 main_v7 ((fun x i => Host.gather gather_S262144x128_S262144x1_S262144x128_1_0_n_n_0_1_1128 x i) : (⟨S262144x128, .f32⟩ : BufTy).Contents (Elt F) → (⟨S262144x1, .i32⟩ : BufTy).Contents (Elt F) → (⟨S262144x128, .f32⟩ : BufTy).Contents (Elt F))]

/-- All of them, in order. -/
def ops : List (HloOp τ sig (Elt F)) := opsRem ++ (opsStart ++ (opsSlice ++ opsTake))

theorem main_eq (d : Dev nD) : main (F := F) d = seq ops := rfl

theorem opsRem_sub : (opsRem (F := F)).Forall fun op => op.bufs ⊆ tcRefs τ sig := by
  unfold opsRem
  simp only [List.forall_cons, List.Forall, nullary_bufs_sub, unary_bufs_sub, binary_bufs_sub, ternary_bufs_sub, reshape_bufs_sub, and_self]
theorem opsStart_sub : (opsStart (F := F)).Forall fun op => op.bufs ⊆ tcRefs τ sig := by
  unfold opsStart
  simp only [List.forall_cons, List.Forall, nullary_bufs_sub, unary_bufs_sub, binary_bufs_sub, ternary_bufs_sub, and_self]
theorem opsSlice_sub : (opsSlice (F := F)).Forall fun op => op.bufs ⊆ tcRefs τ sig := by
  unfold opsSlice
  simp only [List.Forall]
  exact unaryIndexed_bufs_sub ..
theorem opsTake_sub : (opsTake (F := F)).Forall fun op => op.bufs ⊆ tcRefs τ sig := by
  unfold opsTake
  simp only [List.forall_cons, List.Forall, nullary_bufs_sub, unary_bufs_sub, binary_bufs_sub, ternary_bufs_sub, and_self]

theorem ops_sub : (ops (F := F)).Forall fun op => op.bufs ⊆ tcRefs τ sig := by
  unfold ops
  simp only [List.forall_append]
  exact ⟨opsRem_sub, opsStart_sub, opsSlice_sub, opsTake_sub⟩

theorem ops_fresh : ∀ op ∈ ops (F := F), op.fresh = ∅ :=
  List.forall_iff_forall_mem.mp (forall_fresh_of_map rfl)

/-- What the stretches write. -/
def writesRem : List (Ref sig .tc) :=
  [main_call0_v0, main_call0_v1, main_call0_v2, main_call0_c, main_call0_c_0, main_call0_v3, main_call0_call0_c, main_call0_call0_v0,
   main_call0_call0_c_0, main_call0_call0_v1, main_call0_call0_v2, main_call0_call0_c_1, main_call0_call0_v3, main_call0_call0_c_2,
   main_call0_call0_v4, main_call0_call0_c_3, main_call0_call0_v5, main_call0_call0_v6, main_call0_call0_v7, main_call0_call0_v8, main_call0_v4]
def writesStart : List (Ref sig .tc) :=
  [main_call0_v5, main_call0_c_1, main_call0_v6, main_call0_c_2, main_call0_v7, main_call0_c_3, main_call0_v8, main_call0_v9, main_call0_c_4]
def writesSlice : List (Ref sig .tc) := [main_v0]
def writesTake : List (Ref sig .tc) := [main_c, main_v1, main_v2, main_c_0, main_v3, main_v4, main_v5, main_v6, main_v7]

theorem after_rem_of (V : Valuation τ sig (Elt F)) (r : Ref sig .tc) (hr : r ∉ writesRem) :
    after opsRem V (Proc.devRef .tc r) = V (Proc.devRef .tc r) :=
  after_of_writes_sub (W := writesRem) opsRem V (forall_writes_sub_of_map rfl) hr
theorem after_start_of (V : Valuation τ sig (Elt F)) (r : Ref sig .tc) (hr : r ∉ writesStart) :
    after opsStart V (Proc.devRef .tc r) = V (Proc.devRef .tc r) :=
  after_of_writes_sub (W := writesStart) opsStart V (forall_writes_sub_of_map rfl) hr
theorem after_slice_of (V : Valuation τ sig (Elt F)) (r : Ref sig .tc) (hr : r ∉ writesSlice) :
    after opsSlice V (Proc.devRef .tc r) = V (Proc.devRef .tc r) :=
  after_of_writes_sub (W := writesSlice) opsSlice V (forall_writes_sub_of_map rfl) hr
theorem after_take_of (V : Valuation τ sig (Elt F)) (r : Ref sig .tc) (hr : r ∉ writesTake) :
    after opsTake V (Proc.devRef .tc r) = V (Proc.devRef .tc r) :=
  after_of_writes_sub (W := writesTake) opsTake V (forall_writes_sub_of_map rfl) hr

/-! ## What the stretches leave -/

/-- The scalar, spread to one entry and back. -/
def scalarV (a : IVec S_ 32) : IVec S_ 32 :=
  shapeCast S_ (extractStridedSlice S1 ![0] (broadcastInDim S1 ![] bcast_S_S1 a) slices_S1_S1_0) shapeCasts_S1_S_
/-- The rows twice over. -/
def twiceV (X : FVec F S262144x128 .f32) : FVec F S524288x128 .f32 :=
  concatenate S524288x128 0 [⟨S262144x128, X⟩, ⟨S262144x128, X⟩] concatenates_S262144x128_S262144x128_S524288x128_d0
/-- Where the rolled rows start. -/
def startV (s : IVec S_ 32) : IVec S_ 32 :=
  select (cmpi .slt (subi (constantI S_ 32 262144#32) s) (constantI S_ 32 0#32))
    (addi (subi (constantI S_ 32 262144#32) s) (constantI S_ 32 524288#32)) (subi (constantI S_ 32 262144#32) s)
/-- The two starts of the slice, of the rows and of the columns. -/
def startsV (a b : IVec S_ 32) : Fin S524288x128.rank → Int := fun k => ((![a, b] : Fin 2 → IVec S_ 32) k (Shape.Idx.first h_S_)).toInt
/-- The rolled rows. -/
def sliceV (Y : FVec F S524288x128 .f32) (a b : IVec S_ 32) : FVec F S262144x128 .f32 :=
  Host.dynamicSlice S262144x128 Y (startsV a b) sliceFits_S524288x128_S262144x128
/-- The row numbers as the gather takes them. -/
def indexV (I : IVec S262144 32) : IVec S262144x1 32 :=
  broadcastInDim S262144x1 ![0] bcast_S262144_S262144x1_0
    (select (cmpi .slt I (broadcastInDim S262144 ![] bcast_S_S262144 (constantI S_ 32 0#32)))
      (addi I (broadcastInDim S262144 ![] bcast_S_S262144 (constantI S_ 32 262144#32))) I)
/-- The rows taken. -/
def takeV (Y : FVec F S262144x128 .f32) (I : IVec S262144x1 32) : FVec F S262144x128 .f32 :=
  Host.gather gather_S262144x128_S262144x1_S262144x128_1_0_n_n_0_1_1128 Y I

theorem after_rem (V : Valuation τ sig (Elt F)) :
    after opsRem V (Proc.devRef .tc main_call0_v4)
      = (Roll.remV (scalarV (V (Proc.devRef .tc main_arg2))) (maxsi (constantI S_ 32 262144#32) (constantI S_ 32 1#32)) : IVec S_ 32) := by
  unfold opsRem
  after_results
  simp only [TRef.toBuf, TRef.ofBuf, cast_eq]
  rfl
theorem after_start_rows (V : Valuation τ sig (Elt F)) :
    after opsStart V (Proc.devRef .tc main_call0_v5) = twiceV (F := F) (V (Proc.devRef .tc main_arg0)) := by
  unfold opsStart
  after_results
  simp only [TRef.toBuf, TRef.ofBuf, cast_eq]
  rfl
theorem after_start_row (V : Valuation τ sig (Elt F)) :
    after opsStart V (Proc.devRef .tc main_call0_v9) = startV (V (Proc.devRef .tc main_call0_v4)) := by
  unfold opsStart
  after_results
  simp only [TRef.toBuf, TRef.ofBuf, cast_eq]
  rfl
theorem after_start_col (V : Valuation τ sig (Elt F)) :
    after opsStart V (Proc.devRef .tc main_call0_c_4) = (constantI S_ 32 0#32 : IVec S_ 32) := by
  unfold opsStart
  after_results
  simp only [TRef.toBuf, TRef.ofBuf, cast_eq]
theorem after_take (V : Valuation τ sig (Elt F)) :
    after opsTake V (Proc.devRef .tc main_v7) = takeV (F := F) (V (Proc.devRef .tc main_v0)) (indexV (V (Proc.devRef .tc main_arg1))) := by
  unfold opsTake
  after_results
  rfl
theorem after_slice (V : Valuation τ sig (Elt F)) :
    after opsSlice V (Proc.devRef .tc main_v0)
      = sliceV (F := F) (V (Proc.devRef .tc main_call0_v5)) (V (Proc.devRef .tc main_call0_v9)) (V (Proc.devRef .tc main_call0_c_4)) := by
  unfold opsSlice
  after_results
  simp only [TRef.toBuf, TRef.ofBuf, cast_eq]
  refine congrArg (fun st => Host.dynamicSlice S262144x128 (V (Proc.devRef .tc main_call0_v5)) st sliceFits_S524288x128_S262144x128) (funext fun k => ?_)
  match k with
  | 0 => rfl
  | 1 => rfl

/-- The reference's result, of its arguments. -/
def refV (X : FVec F S262144x128 .f32) (I : IVec S262144 32) (a : IVec S_ 32) : FVec F S262144x128 .f32 :=
  takeV (sliceV (twiceV X) (startV (Roll.remV (scalarV a) (maxsi (constantI S_ 32 262144#32) (constantI S_ 32 1#32)))) (constantI S_ 32 0#32)) (indexV I)

theorem after_ops (V : Valuation τ sig (Elt F)) :
    after ops V (Proc.devRef .tc main_v7)
      = refV (F := F) (V (Proc.devRef .tc main_arg0)) (V (Proc.devRef .tc main_arg1)) (V (Proc.devRef .tc main_arg2)) := by
  unfold ops refV
  rw [after_append, after_append, after_append, after_take, after_slice, after_start_rows, after_start_row, after_start_col, after_rem,
    after_slice_of _ main_arg1 (by decide), after_start_of _ main_arg1 (by decide), after_rem_of _ main_arg1 (by decide),
    after_rem_of _ main_arg0 (by decide)]

theorem after_ops_of (V : Valuation τ sig (Elt F)) (r : Ref sig .tc) (h1 : r ∉ writesRem) (h2 : r ∉ writesStart) (h3 : r ∉ writesSlice)
    (h4 : r ∉ writesTake) : after ops V (Proc.devRef .tc r) = V (Proc.devRef .tc r) := by
  unfold ops
  rw [after_append, after_append, after_append, after_take_of _ r h4, after_slice_of _ r h3, after_start_of _ r h2, after_rem_of _ r h1]

/-! ## The run -/

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ) (ρ : Dev nD → PrngReg)

/-- What the run ends in: the result, the arguments as they were, every counter at zero. -/
def QR (r : PUnit × MemSt nD τ sig (Elt F)) : Prop :=
  (∀ d : Dev nD, r.2.mem ((d.tc : Thread nD τ).loc main_v7)
        = refV (F := F) (m ((d.tc : Thread nD τ).loc main_arg0)) (m ((d.tc : Thread nD τ).loc main_arg1)) (m ((d.tc : Thread nD τ).loc main_arg2))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2))
    ∧ r.2.sem = fun _ => 0

theorem run_main : θ_run (defs (F := F)) (onTc (τ := τ) (main (F := F))) ⟨m, fun _ => 0, ρ⟩ (QR m) := by
  refine (θ_run (defs (F := F)) _ _).mono (fun r h => ?_)
    (run_seq scopedRefs_eq scopedSems_eq defs main (fun _ => ops) main_eq (fun _ => ops_sub) m ρ (fun _ => ops_fresh))
  refine ⟨fun d => ⟨(h d main_v7).trans (after_ops _), (h d main_arg0).trans ?_, (h d main_arg1).trans ?_, (h d main_arg2).trans ?_⟩,
    sem_eq_zero_of_no_sems (by decide) r.2⟩
  · exact after_ops_of _ _ (by decide) (by decide) (by decide) (by decide)
  · exact after_ops_of _ _ (by decide) (by decide) (by decide) (by decide)
  · exact after_ops_of _ _ (by decide) (by decide) (by decide) (by decide)

end Cert.Proof.Ref

end
-- ==== Proof.RefValue.lean ====
/-
  The reference's value: row `r` of the result is row `(idx[r] + N - s) mod N` of `x`, where `s` is the shift's
  remainder by the number of rows `N` — the row the kernel's word names.
-/
module

public import proofs.«01_k».proof.Proof.RefRun
public import proofs.«01_k».proof.Proof.Parts
public import Idealize.ShloMosaic.Lib.DynamicIndex
public import Idealize.ShloMosaic.Lib.Pipeline.Value

@[expose] public section

noncomputable section

namespace Cert.Proof.Ref

open Cert.ReferenceIdeal Cert.ReferenceIdeal.Gen
open Idealize.ShloMosaic Idealize.ShloMosaic.StableHlo

variable {F : FTy → Type} [FloatOps F]

/-- An index of the rows and columns. -/
def rc (r : ℕ) (hr : r < 262144) (c : Fin 128) : S262144x128.Idx
  | 0 => ⟨r, hr⟩
  | 1 => c

theorem rc_congr {r r' : ℕ} (h : r = r') (hr : r < 262144) (hr' : r' < 262144) (c : Fin 128) : rc r hr c = rc r' hr' c := by
  subst h; rfl

/-! ## The shift -/

instance : Subsingleton S_.Idx := ⟨fun a b => funext fun k => k.elim0⟩

theorem scalarV_eq (a : IVec S_ 32) : scalarV a = a := by
  funext x
  unfold scalarV
  unfold shapeCast extractStridedSlice broadcastInDim
  exact congrArg a (Subsingleton.elim _ _)

theorem rows_eq : (maxsi (constantI S_ 32 262144#32) (constantI S_ 32 1#32) : IVec S_ 32) = constantI S_ 32 262144#32 := by
  funext x
  show IntOp.maxsi (262144#32 : BitVec 32) 1#32 = 262144#32
  decide

theorem toInt_small (v : BitVec 32) (h : v.toNat < 2147483648) : v.toInt = v.toNat := by
  rw [BitVec.toInt_eq_toNat_cond]
  split <;> omega

/-- The rolled rows start at the number of rows less the shift. -/
theorem startV_toInt (s : IVec S_ 32) (x : S_.Idx) (h : (s x).toNat < 262144) : (startV s x).toInt = ((262144 - (s x).toNat : ℕ) : ℤ) := by
  have hd : (262144#32 - s x).toNat = 262144 - (s x).toNat := by
    rw [BitVec.toNat_sub]
    simp only [BitVec.toNat_ofNat]
    omega
  have hi : (262144#32 - s x).toInt = ((262144 - (s x).toNat : ℕ) : ℤ) := by
    rw [toInt_small _ (by omega), hd]
  have he : startV s x = 262144#32 - s x := by
    refine select_slt_zero_of_nonneg (subi (constantI S_ 32 262144#32) s) _ _ x ?_
    show 0 ≤ (262144#32 - s x).toInt
    rw [hi]; omega
  rw [he, hi]

/-! ## The rolled rows -/

theorem twiceV_low (X : FVec F S262144x128 .f32) (j : S524288x128.Idx) (h : (j 0).val < 262144) :
    twiceV X j = X (rc (j 0).val h (j 1)) := by
  refine concatenate_pair_apply_left (t := S524288x128) 0 X X _ j rfl (rc (j 0).val h (j 1)) fun b => ?_
  match b with
  | 0 => rfl
  | 1 => rfl

theorem twiceV_high (X : FVec F S262144x128 .f32) (j : S524288x128.Idx) (r : ℕ) (hr : r < 262144) (h : r + 262144 = (j 0).val) :
    twiceV X j = X (rc r hr (j 1)) := by
  refine concatenate_pair_apply_right (t := S524288x128) 0 X X _ j rfl rfl (rc r hr (j 1)) (fun b hb => ?_) h
  match b, hb with
  | 0, hb => exact (hb (Fin.ext rfl)).elim
  | 1, _ => exact rfl

/-- A row of the rows twice over is the row at its remainder. -/
theorem twiceV_apply (X : FVec F S262144x128 .f32) (j : S524288x128.Idx) :
    twiceV X j = X (rc ((j 0).val % 262144) (Nat.mod_lt _ (by decide)) (j 1)) := by
  have hj : (j 0).val < 524288 := (j 0).isLt
  by_cases h : (j 0).val < 262144
  · rw [twiceV_low X j h]
    exact congrArg X (rc_congr (by omega) _ _ _)
  · rw [twiceV_high X j ((j 0).val - 262144) (by omega) (by omega)]
    exact congrArg X (rc_congr (by omega) _ _ _)

theorem slices_at (n : ℕ) (hn : n ≤ 262144) : S524288x128.Slices (fun | 0 => n | 1 => 0) S262144x128 := by
  refine ⟨rfl, fun a => ?_⟩
  match a with
  | 0 => show n + 262144 ≤ 524288; omega
  | 1 => show 0 + 128 ≤ 128; omega

/-- Where the slice starts on each axis. -/
theorem startsV_eq (p q : IVec S_ 32) (n : ℕ) (hp : (p (Shape.Idx.first h_S_)).toInt = (n : ℤ)) (hq : (q (Shape.Idx.first h_S_)).toInt = 0)
    (a : Fin S524288x128.rank) : startsV p q a = (((fun | 0 => n | 1 => 0 : Fin S524288x128.rank → ℕ) a : ℕ) : ℤ) := by
  match a with
  | 0 => exact hp
  | 1 => exact hq

/-- The index in the rows twice over that an index of the rolled rows reads. -/
def moved (n : ℕ) (hn : n ≤ 262144) (j : S262144x128.Idx) : S524288x128.Idx
  | 0 => ⟨n + (j 0).val, by have h : (j 0).val < 262144 := (j 0).isLt; show n + (j 0).val < 524288; omega⟩
  | 1 => j 1

theorem sliceV_apply (X : FVec F S262144x128 .f32) (s : IVec S_ 32) (h : ∀ x, (s x).toNat < 262144) (j : S262144x128.Idx) :
    sliceV (twiceV X) (startV s) (constantI S_ 32 0#32) j
      = X (rc ((262144 - (s (Shape.Idx.first h_S_)).toNat + (j 0).val) % 262144) (Nat.mod_lt _ (by decide)) (j 1)) := by
  unfold sliceV
  rw [Host.dynamicSlice_eq_extractStridedSlice S262144x128 (twiceV X) _ _ _ (slices_at (262144 - (s (Shape.Idx.first h_S_)).toNat) (by omega)) (startsV_eq _ _ _ (startV_toInt s _ (h _)) rfl),
    extractStridedSlice_apply _ _ _ j (moved (262144 - (s (Shape.Idx.first h_S_)).toNat) (by omega) j) (fun a => by
      match a with
      | 0 => rfl
      | 1 => exact (Nat.zero_add _).symm),
    twiceV_apply]
  rfl

/-! ## The rows taken -/

/-- The index of the row number an entry of the result reads. -/
def rowAt (j : S262144x128.Idx) : S262144x1.Idx
  | 0 => j 0
  | 1 => ⟨0, Nat.one_pos⟩
def listAt (j : S262144x128.Idx) : S262144.Idx
  | 0 => j 0

theorem indexV_apply (I : IVec S262144 32) (j : S262144x128.Idx) (h : (I (listAt j)).toNat < 262144) :
    indexV I (rowAt j) = I (listAt j) := by
  unfold indexV
  rw [broadcastInDim_apply _ _ _ (rowAt j) (listAt j) (fun a => by
    match a with
    | 0 => rfl)]
  refine select_slt_zero_of_nonneg I _ _ (listAt j) ?_
  rw [toInt_small _ (by omega)]; omega

theorem takeV_apply (Y : FVec F S262144x128 .f32) (K : IVec S262144x1 32) (j : S262144x128.Idx) (h : (K (rowAt j)).toNat < 262144) :
    takeV Y K j = Y (rc (K (rowAt j)).toNat h (j 1)) := by
  unfold takeV Host.gather
  congr 1
  funext a
  refine Fin.ext ?_
  show GatherDims.start _ j K a + GatherDims.batchCoord _ j a + GatherDims.offCoord _ j a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S262144x128_S262144x1_S262144x128_1_0_n_n_0_1_1128.startIndexMap from List.mem_singleton.mpr rfl)]
    have hsi : gather_S262144x128_S262144x1_S262144x128_1_0_n_n_0_1_1128.siIdx j
        ⟨List.idxOf (0 : Fin 2) gather_S262144x128_S262144x1_S262144x128_1_0_n_n_0_1_1128.startIndexMap,
          List.idxOf_lt_length_iff.2 (List.mem_singleton.mpr rfl)⟩ = rowAt j := by
      funext b; refine Fin.ext ?_
      match b with
      | 0 => rfl
      | 1 => rfl
    rw [hsi, toInt_small _ (by omega)]
    show min (K (rowAt j)).toNat (262144 - 1) + 0 + 0 = (K (rowAt j)).toNat
    omega
  | 1 =>
    unfold GatherDims.start
    rw [dif_neg (show (1 : Fin 2) ∉ gather_S262144x128_S262144x1_S262144x128_1_0_n_n_0_1_1128.startIndexMap from
      fun h => absurd (List.mem_singleton.mp h) (by decide))]
    show 0 + 0 + (j 1).val = (j 1).val
    omega

/-! ## The result -/

/-- The reference's result is the rows of `x` that the kernel's words name. -/
theorem refV_eq (X : FVec F S262144x128 .f32) (I : IVec S262144 32) (a : IVec S_ 32) (hI : ∀ j, (I j).toNat < 262144) :
    refV X I a = Roll.outOf X (Roll.modW (a fun k => k.elim0)) (Roll.wordOf I) := by
  have hs : ∀ x : S_.Idx, (Roll.remV a (constantI S_ 32 262144#32) x) = Roll.modW (a fun k => k.elim0) := fun x => by
    rw [Roll.remV_apply]
    exact congrArg (fun z => Roll.modW (a z)) (Subsingleton.elim _ _)
  have hlt := Roll.modW_lt (a fun k => k.elim0)
  funext j
  unfold refV
  rw [scalarV_eq, rows_eq]
  have hK := indexV_apply I j (hI _)
  rw [takeV_apply _ _ j (by rw [hK]; exact hI _), sliceV_apply X _ (fun x => by rw [hs]; exact hlt)]
  unfold Roll.outOf Roll.rowsOf
  refine congrArg X (funext fun k => ?_)
  match k with
  | 0 =>
    refine Fin.ext ?_
    show (262144 - (Roll.remV a (constantI S_ 32 262144#32) (Shape.Idx.first h_S_)).toNat + (indexV I (rowAt j)).toNat) % 262144
      = (Roll.adjW (Roll.modW (a fun k => k.elim0)) (Roll.wordOf I (j 0).val)).toNat % 262144
    rw [Roll.wordOf_apply I (listAt j) (j 0).val rfl, hs, hK, Roll.adjW_toNat _ _ hlt (hI _)]
    have := hI (listAt j)
    omega
  | 1 => rfl

end Cert.Proof.Ref

end
-- ==== Proof.Pre.lean ====
/-
  What the precondition says of the row numbers: each of them names a row.
-/
module

public import proofs.«01_k».proof.Proof.Gen.Pre_idx_in_rows
public import Idealize.ShloMosaic.Lib.ReduceAll

@[expose] public section

noncomputable section

namespace Cert.Proof.Pre

open Cert.Pre_idx_in_rows Cert.Pre_idx_in_rows.Gen
open Idealize.ShloMosaic

variable {F : FTy → Type} [FloatOps F]

instance : Subsingleton S_.Idx := ⟨fun a b => funext fun k => k.elim0⟩

theorem lt_of_bounds (v : BitVec 32) (h0 : IntOp.cmpi .sge v 0#32 = 1#1) (h1 : IntOp.cmpi .slt v 262144#32 = 1#1) : v.toNat < 262144 := by
  rw [IntOp.cmpi_sge] at h0
  rw [IntOp.cmpi_slt] at h1
  have hz : (0#32 : BitVec 32).toInt = 0 := rfl
  have hn : (262144#32 : BitVec 32).toInt = 262144 := by decide
  have hv := BitVec.toInt_eq_toNat_cond v
  have := v.isLt
  rw [hz] at h0
  rw [hn] at h1
  split at hv <;> omega

theorem rows_lt (X : FVec F S262144x128 .f32) (I : IVec S262144 32) (a : IVec S_ 32) (h : fn (F := F) X I a = fun _ => 1#1) (j : S262144.Idx) :
    (I j).toNat < 262144 := by
  obtain ⟨hge, hlt⟩ := IntOp.andi_eq_one.mp (congrFun h (fun k => k.elim0))
  exact lt_of_bounds _ (Host.reduce_andi_all _ _ _ _ _ hge j) (Host.reduce_andi_all _ _ _ _ _ hlt j)

end Cert.Proof.Pre

end
-- ==== Proof.lean ====
/-
  The claims: the program's run (Proof/Launch.lean) and its idealization's, one text read at two number types; the
  reference's run (Proof/RefRun.lean) and its value (Proof/RefValue.lean); and that the two results are one.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_in_rows
public import proofs.«01_k».proof.Proof.Launch
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem

/-- The run of the program on the chip's numbers: that of its idealization, whose text it has. -/
theorem frame_kernel : Cert.quiescent_Kernel := fun m ρ hpre =>
  (θ_run (Cert.KernelIdeal.defs (F := Bits)) _ _).mono (fun _ h => ⟨fun c => (h.1 c).2, h.2⟩)
    (Roll.run_main (F := Bits) m ρ fun d j => Pre.rows_lt _ _ _ (hpre d) j)

theorem frame_ideal : Cert.quiescent_KernelIdeal := fun m ρ hpre =>
  (θ_run (Cert.KernelIdeal.defs (F := Ideal)) _ _).mono (fun _ h => ⟨fun c => (h.1 c).2, h.2⟩)
    (Roll.run_main (F := Ideal) m ρ fun d j => Pre.rows_lt _ _ _ (hpre d) j)

theorem frame_reference : Cert.quiescent_ReferenceIdeal := fun m ρ _ =>
  (θ_run (Cert.ReferenceIdeal.defs (F := Ideal)) _ _).mono (fun _ h => ⟨fun c => (h.1 c).2, h.2⟩) (Ref.run_main (F := Ideal) m ρ)

theorem frame_reference_pre : Cert.quiescent_ReferenceIdeal_pre_idx_in_rows := fun m ρ _ => frame_reference m ρ trivial

/-- The shared value is the rows of `x` the kernel's words name; the reference's is that of the same arguments. -/
theorem algebraic : Cert.algebraic_KernelIdeal_ReferenceIdeal := by
  intro m ρ m' ρ' hpre hagree
  have hI : Roll.PreOK m := fun d j => Pre.rows_lt _ _ _ (hpre d) j
  refine ⟨fun c => Roll.resultV m c,
    (θ_run (Cert.KernelIdeal.defs (F := Ideal)) _ _).mono (fun _ h => h.1) (Roll.run_main (F := Ideal) m ρ hI),
    (θ_run (Cert.ReferenceIdeal.defs (F := Ideal)) _ _).mono (fun _ h c => ⟨(h.1 c).1.trans ?_, (h.1 c).2⟩) (Ref.run_main (F := Ideal) m' ρ')⟩
  rw [(hagree c).1, (hagree c).2.1, (hagree c).2.2]
  exact Ref.refV_eq _ _ _ (hI c)

/-- `Cert.Claim` (Defs.lean). -/
theorem claim : Cert.Claim :=
  ⟨Cert.Kernel.Gen.facts, Cert.KernelIdeal.Gen.facts, Cert.ReferenceIdeal.Gen.facts, Cert.Pre_idx_in_rows.Gen.facts,
    frame_kernel, frame_ideal, frame_reference, frame_reference_pre, trivial, algebraic⟩

end Cert.Proof

end
